-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x64 : Shape := ⟨2, ![128, 64]⟩
abbrev S64x262144 : Shape := ⟨2, ![64, 262144]⟩
abbrev S_ : Shape := ⟨0, ![]⟩

class Facts : Prop where
  bcast_S_S128x64 : S_.BroadcastsInDim S128x64 (![] : Fin 0 → Fin S128x64.rank)

variable [Facts]

def fn {F : FTy → Type} [FloatOps F] (main_arg0 : FVec F S128x64 .f32) (main_arg1 : FVec F S64x262144 .f32) : IVec S128x64 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  main_v2
-- ==== Kernel.lean ====
abbrev S128x64 : Shape := ⟨2, ![128, 64]⟩
abbrev S64x262144 : Shape := ⟨2, ![64, 262144]⟩
abbrev S_ : Shape := ⟨0, ![]⟩
abbrev S64 : Shape := ⟨1, ![64]⟩
abbrev S128 : Shape := ⟨1, ![128]⟩
abbrev S64x1 : Shape := ⟨2, ![64, 1]⟩
abbrev S1x128 : Shape := ⟨2, ![1, 128]⟩
abbrev S64x128 : Shape := ⟨2, ![64, 128]⟩
abbrev S64x256 : Shape := ⟨2, ![64, 256]⟩
abbrev S128x128 : Shape := ⟨2, ![128, 128]⟩
abbrev S128x1 : Shape := ⟨2, ![128, 1]⟩
abbrev S128x256 : Shape := ⟨2, ![128, 256]⟩
abbrev S512x256 : Shape := ⟨2, ![512, 256]⟩
abbrev S256x256 : Shape := ⟨2, ![256, 256]⟩
abbrev S512x256x1 : Shape := ⟨3, ![512, 256, 1]⟩
abbrev S1x256x256 : Shape := ⟨3, ![1, 256, 256]⟩
abbrev S512x256x256 : Shape := ⟨3, ![512, 256, 256]⟩
abbrev S128x512 : Shape := ⟨2, ![128, 512]⟩
abbrev S256x512 : Shape := ⟨2, ![256, 512]⟩
abbrev S64x512 : Shape := ⟨2, ![64, 512]⟩
abbrev S1x64 : Shape := ⟨2, ![1, 64]⟩
abbrev S256x64 : Shape := ⟨2, ![256, 64]⟩
abbrev S1x256x512 : Shape := ⟨3, ![1, 256, 512]⟩
abbrev S512x256x512 : Shape := ⟨3, ![512, 256, 512]⟩
abbrev S512x512 : Shape := ⟨2, ![512, 512]⟩
abbrev S64x1024 : Shape := ⟨2, ![64, 1024]⟩
abbrev S128x1024 : Shape := ⟨2, ![128, 1024]⟩

abbrev nBuf : Space → Nat
  | .hbm => 267
  | .vmem => 5
  | .smem => 0
  | _ => 0

abbrev hbmTy0_0 (i : Nat) : BufTy := match i % 128 with
  | 0 => ⟨S128x64, .f32⟩
  | 1 => ⟨S64x262144, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S64, .i32⟩
  | 10 => ⟨S64, .f32⟩
  | 11 => ⟨S128, .i32⟩
  | 12 => ⟨S128, .f32⟩
  | 13 => ⟨S64x1, .f32⟩
  | 14 => ⟨S1x128, .f32⟩
  | 15 => ⟨S64x128, .f32⟩
  | 16 => ⟨S64x128, .f32⟩
  | 17 => ⟨S64x128, .f32⟩
  | 18 => ⟨S64x128, .f32⟩
  | 19 => ⟨S64x128, .f32⟩
  | 20 => ⟨S64x128, .f32⟩
  | 21 => ⟨S64x128, .f32⟩
  | 22 => ⟨S64x128, .f32⟩
  | 23 => ⟨S64x256, .f32⟩
  | 24 => ⟨S128, .i32⟩
  | 25 => ⟨S_, .f32⟩
  | 26 => ⟨S128, .f32⟩
  | 27 => ⟨S128, .i1⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128x128, .f32⟩
  | 38 => ⟨S128, .f32⟩
  | 39 => ⟨S128x1, .f32⟩
  | 40 => ⟨S1x128, .f32⟩
  | 41 => ⟨S128x128, .f32⟩
  | 42 => ⟨S128x128, .f32⟩
  | 43 => ⟨S128x128, .f32⟩
  | 44 => ⟨S128x128, .f32⟩
  | 45 => ⟨S128x128, .f32⟩
  | 46 => ⟨S_, .i32⟩
  | 47 => ⟨S128, .i32⟩
  | 48 => ⟨S128, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S128, .i32⟩
  | 56 => ⟨S128, .i32⟩
  | 57 => ⟨S_, .i32⟩
  | 58 => ⟨S128, .i32⟩
  | 59 => ⟨S128, .i1⟩
  | 60 => ⟨S_, .i32⟩
  | 61 => ⟨S128, .i32⟩
  | 62 => ⟨S128, .i1⟩
  | 63 => ⟨S_, .i32⟩
  | 64 => ⟨S_, .i1⟩
  | 65 => ⟨S128, .i1⟩
  | 66 => ⟨S128, .i1⟩
  | 67 => ⟨S128, .i1⟩
  | 68 => ⟨S128, .i32⟩
  | 69 => ⟨S128, .i32⟩
  | 70 => ⟨S128, .i32⟩
  | 71 => ⟨S128, .f32⟩
  | 72 => ⟨S128x1, .f32⟩
  | 73 => ⟨S1x128, .f32⟩
  | 74 => ⟨S128x128, .f32⟩
  | 75 => ⟨S128x128, .f32⟩
  | 76 => ⟨S128x128, .f32⟩
  | 77 => ⟨S128x128, .f32⟩
  | 78 => ⟨S128x128, .f32⟩
  | 79 => ⟨S128x1, .f32⟩
  | 80 => ⟨S128x128, .f32⟩
  | 81 => ⟨S128x128, .f32⟩
  | 82 => ⟨S128x128, .f32⟩
  | 83 => ⟨S128x256, .f32⟩
  | 84 => ⟨S128x1, .f32⟩
  | 85 => ⟨S128x1, .f32⟩
  | 86 => ⟨S128x128, .f32⟩
  | 87 => ⟨S128x128, .f32⟩
  | 88 => ⟨S128x128, .f32⟩
  | 89 => ⟨S128x256, .f32⟩
  | 90 => ⟨S128x1, .f32⟩
  | 91 => ⟨S128x128, .f32⟩
  | 92 => ⟨S128x128, .f32⟩
  | 93 => ⟨S128x128, .f32⟩
  | 94 => ⟨S128x256, .f32⟩
  | 95 => ⟨S128x1, .f32⟩
  | 96 => ⟨S128x1, .f32⟩
  | 97 => ⟨S128x128, .f32⟩
  | 98 => ⟨S128x128, .f32⟩
  | 99 => ⟨S128x128, .f32⟩
  | 100 => ⟨S128x256, .f32⟩
  | 101 => ⟨S512x256, .f32⟩
  | 102 => ⟨S128x128, .i32⟩
  | 103 => ⟨S128x128, .i32⟩
  | 104 => ⟨S128x128, .i1⟩
  | 105 => ⟨S_, .i32⟩
  | 106 => ⟨S128x128, .i32⟩
  | 107 => ⟨S128x128, .i1⟩
  | 108 => ⟨S128x128, .i1⟩
  | 109 => ⟨S128x128, .f32⟩
  | 110 => ⟨S128x128, .i32⟩
  | 111 => ⟨S_, .i32⟩
  | 112 => ⟨S128x128, .i32⟩
  | 113 => ⟨S128x128, .i1⟩
  | 114 => ⟨S128x128, .f32⟩
  | 115 => ⟨S_, .i32⟩
  | 116 => ⟨S128x128, .i32⟩
  | 117 => ⟨S128x128, .i32⟩
  | 118 => ⟨S128x128, .i1⟩
  | 119 => ⟨S_, .i32⟩
  | 120 => ⟨S128x128, .i32⟩
  | 121 => ⟨S128x128, .i1⟩
  | 122 => ⟨S128x128, .i1⟩
  | 123 => ⟨S128x128, .f32⟩
  | 124 => ⟨S128x128, .f32⟩
  | 125 => ⟨S128x256, .f32⟩
  | 126 => ⟨S_, .i32⟩
  | 127 => ⟨S128x128, .i32⟩
  | _ => ⟨S128x64, .f32⟩

abbrev hbmTy0_1 (i : Nat) : BufTy := match i % 128 with
  | 0 => ⟨S128x128, .i32⟩
  | 1 => ⟨S128x128, .i1⟩
  | 2 => ⟨S_, .i32⟩
  | 3 => ⟨S128x128, .i32⟩
  | 4 => ⟨S128x128, .i1⟩
  | 5 => ⟨S128x128, .i1⟩
  | 6 => ⟨S128x128, .f32⟩
  | 7 => ⟨S128x128, .f32⟩
  | 8 => ⟨S128x128, .i32⟩
  | 9 => ⟨S_, .i32⟩
  | 10 => ⟨S128x128, .i32⟩
  | 11 => ⟨S128x128, .i1⟩
  | 12 => ⟨S128x128, .f32⟩
  | 13 => ⟨S128x128, .f32⟩
  | 14 => ⟨S128x256, .f32⟩
  | 15 => ⟨S256x256, .f32⟩
  | 16 => ⟨S512x256x1, .f32⟩
  | 17 => ⟨S1x256x256, .f32⟩
  | 18 => ⟨S512x256x256, .f32⟩
  | 19 => ⟨S512x256x256, .f32⟩
  | 20 => ⟨S512x256x256, .f32⟩
  | 21 => ⟨S_, .f32⟩
  | 22 => ⟨S512x256, .f32⟩
  | 23 => ⟨S128, .i32⟩
  | 24 => ⟨S128, .f32⟩
  | 25 => ⟨S128, .i32⟩
  | 26 => ⟨S128, .f32⟩
  | 27 => ⟨S128x1, .f32⟩
  | 28 => ⟨S1x128, .f32⟩
  | 29 => ⟨S128x128, .f32⟩
  | 30 => ⟨S128x128, .f32⟩
  | 31 => ⟨S128x128, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x256, .f32⟩
  | 38 => ⟨S_, .f32⟩
  | 39 => ⟨S128x256, .f32⟩
  | 40 => ⟨S128x512, .f32⟩
  | 41 => ⟨S128x512, .f32⟩
  | 42 => ⟨S256x512, .f32⟩
  | 43 => ⟨S64x1, .f32⟩
  | 44 => ⟨S1x128, .f32⟩
  | 45 => ⟨S64x128, .f32⟩
  | 46 => ⟨S64x128, .f32⟩
  | 47 => ⟨S64x128, .f32⟩
  | 48 => ⟨S64x128, .f32⟩
  | 49 => ⟨S64x128, .f32⟩
  | 50 => ⟨S64x128, .f32⟩
  | 51 => ⟨S64x128, .f32⟩
  | 52 => ⟨S64x128, .f32⟩
  | 53 => ⟨S_, .f32⟩
  | 54 => ⟨S128, .f32⟩
  | 55 => ⟨S128, .f32⟩
  | 56 => ⟨S128, .f32⟩
  | 57 => ⟨S128, .f32⟩
  | 58 => ⟨S128, .f32⟩
  | 59 => ⟨S128, .f32⟩
  | 60 => ⟨S1x128, .f32⟩
  | 61 => ⟨S64x128, .f32⟩
  | 62 => ⟨S64x128, .f32⟩
  | 63 => ⟨S1x128, .f32⟩
  | 64 => ⟨S64x128, .f32⟩
  | 65 => ⟨S64x128, .f32⟩
  | 66 => ⟨S64x128, .f32⟩
  | 67 => ⟨S1x128, .f32⟩
  | 68 => ⟨S64x128, .f32⟩
  | 69 => ⟨S64x128, .f32⟩
  | 70 => ⟨S1x128, .f32⟩
  | 71 => ⟨S64x128, .f32⟩
  | 72 => ⟨S64x128, .f32⟩
  | 73 => ⟨S64x128, .f32⟩
  | 74 => ⟨S64x512, .f32⟩
  | 75 => ⟨S64, .i32⟩
  | 76 => ⟨S_, .i32⟩
  | 77 => ⟨S64, .i32⟩
  | 78 => ⟨S64, .i32⟩
  | 79 => ⟨S64, .f32⟩
  | 80 => ⟨S128x1, .f32⟩
  | 81 => ⟨S1x64, .f32⟩
  | 82 => ⟨S128x64, .f32⟩
  | 83 => ⟨S128x64, .f32⟩
  | 84 => ⟨S128x64, .f32⟩
  | 85 => ⟨S128x64, .f32⟩
  | 86 => ⟨S128x64, .f32⟩
  | 87 => ⟨S_, .f32⟩
  | 88 => ⟨S128, .f32⟩
  | 89 => ⟨S128, .i1⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S128x1, .f32⟩
  | 99 => ⟨S128x64, .f32⟩
  | 100 => ⟨S128x64, .f32⟩
  | 101 => ⟨S128x64, .f32⟩
  | 102 => ⟨S128x1, .f32⟩
  | 103 => ⟨S128x1, .f32⟩
  | 104 => ⟨S128x64, .f32⟩
  | 105 => ⟨S128x64, .f32⟩
  | 106 => ⟨S128x64, .f32⟩
  | 107 => ⟨S256x64, .f32⟩
  | 108 => ⟨S_, .f32⟩
  | 109 => ⟨S_, .f32⟩
  | 110 => ⟨S_, .f32⟩
  | 111 => ⟨S_, .f32⟩
  | 112 => ⟨S256x64, .f32⟩
  | 113 => ⟨S256x64, .f32⟩
  | 114 => ⟨S512x256x1, .f32⟩
  | 115 => ⟨S1x256x512, .f32⟩
  | 116 => ⟨S512x256x512, .f32⟩
  | 117 => ⟨S512x256x512, .f32⟩
  | 118 => ⟨S512x256x512, .f32⟩
  | 119 => ⟨S_, .f32⟩
  | 120 => ⟨S512x512, .f32⟩
  | 121 => ⟨S_, .f32⟩
  | 122 => ⟨S64, .f32⟩
  | 123 => ⟨S64, .f32⟩
  | 124 => ⟨S64x1, .f32⟩
  | 125 => ⟨S64x256, .f32⟩
  | 126 => ⟨S64x256, .f32⟩
  | 127 => ⟨S64, .f32⟩
  | _ => ⟨S128x64, .f32⟩

abbrev hbmTy0_2 (i : Nat) : BufTy := match i % 128 with
  | 0 => ⟨S64x1, .f32⟩
  | 1 => ⟨S64x256, .f32⟩
  | 2 => ⟨S64x256, .f32⟩
  | 3 => ⟨S64x1, .f32⟩
  | 4 => ⟨S64x512, .f32⟩
  | 5 => ⟨S64x512, .f32⟩
  | 6 => ⟨S64x1024, .f32⟩
  | 7 => ⟨S64x1024, .bf16⟩
  | 8 => ⟨S512x512, .bf16⟩
  | 9 => ⟨S256x64, .bf16⟩
  | 10 => ⟨S128x64, .f32⟩
  | _ => ⟨S128x64, .f32⟩

abbrev hbmTy (i : Nat) : BufTy := match i / 128 with
  | 0 => hbmTy0_0 i
  | 1 => hbmTy0_1 i
  | 2 => hbmTy0_2 i
  | _ => ⟨S128x64, .f32⟩

abbrev bufTy : (tb : Table) → Fin (tcTables nBuf tb) → BufTy
  | .hbm, ⟨i, _⟩ => hbmTy i
  | .local _ .vmem, ⟨0, _⟩ => ⟨S128x64, .f32⟩
  | .local _ .vmem, ⟨1, _⟩ => ⟨S64x1024, .bf16⟩
  | .local _ .vmem, ⟨2, _⟩ => ⟨S512x512, .bf16⟩
  | .local _ .vmem, ⟨3, _⟩ => ⟨S256x64, .bf16⟩
  | .local _ .vmem, ⟨4, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_9 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_10 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_11 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_13 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_14 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_15 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_16 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_17 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_18 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_c_19 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_20 : Ref sig .tc := ⟨.hbm, 215, rfl⟩
abbrev main_v169 : Ref sig .tc := ⟨.hbm, 216, rfl⟩
abbrev main_v170 : Ref sig .tc := ⟨.hbm, 217, rfl⟩
abbrev main_cst_21 : Ref sig .tc := ⟨.hbm, 218, rfl⟩
abbrev main_cst_22 : Ref sig .tc := ⟨.hbm, 219, rfl⟩
abbrev main_call2_v0 : Ref sig .tc := ⟨.hbm, 220, rfl⟩
abbrev main_call2_v1 : Ref sig .tc := ⟨.hbm, 221, rfl⟩
abbrev main_v171 : Ref sig .tc := ⟨.hbm, 222, rfl⟩
abbrev main_cst_23 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_24 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_cst_25 : Ref sig .tc := ⟨.hbm, 247, rfl⟩
abbrev main_v194 : Ref sig .tc := ⟨.hbm, 248, rfl⟩
abbrev main_cst_26 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S128x64 : Shape := ⟨2, ![128, 64]⟩
abbrev S64x262144 : Shape := ⟨2, ![64, 262144]⟩
abbrev S64 : Shape := ⟨1, ![64]⟩
abbrev S_ : Shape := ⟨0, ![]⟩
abbrev S64x64x64x64 : Shape := ⟨4, ![64, 64, 64, 64]⟩
abbrev S64x128 : Shape := ⟨2, ![64, 128]⟩
abbrev S64x1x1x128 : Shape := ⟨4, ![64, 1, 1, 128]⟩
abbrev S1x64x1x128 : Shape := ⟨4, ![1, 64, 1, 128]⟩
abbrev S64x64x1x128 : Shape := ⟨4, ![64, 64, 1, 128]⟩
abbrev S1x1x64x128 : Shape := ⟨4, ![1, 1, 64, 128]⟩
abbrev S64x64x64x128 : Shape := ⟨4, ![64, 64, 64, 128]⟩
abbrev S262144x128 : Shape := ⟨2, ![262144, 128]⟩

abbrev nBuf : Space → Nat
  | .hbm => 86
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S64x262144, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S64x64x64x64, .i32⟩
  | .hbm, ⟨7, _⟩ => ⟨S64x64x64x64, .i32⟩
  | .hbm, ⟨8, _⟩ => ⟨S64x64x64x64, .i32⟩
  | .hbm, ⟨9, _⟩ => ⟨S64x64x64x64, .i32⟩
  | .hbm, ⟨10, _⟩ => ⟨S64x64x64x64, .i32⟩
  | .hbm, ⟨11, _⟩ => ⟨S64x64x64x64, .i32⟩
  | .hbm, ⟨12, _⟩ => ⟨S64x64x64x64, .i32⟩
  | .hbm, ⟨13, _⟩ => ⟨S64x64x64x64, .i32⟩
  | .hbm, ⟨14, _⟩ => ⟨S64x64x64x64, .i32⟩
  | .hbm, ⟨15, _⟩ => ⟨S64x64x64x64, .i1⟩
  | .hbm, ⟨16, _⟩ => ⟨S64x64x64x64, .i32⟩
  | .hbm, ⟨17, _⟩ => ⟨S64x64x64x64, .i32⟩
  | .hbm, ⟨18, _⟩ => ⟨S64x64x64x64, .i32⟩
  | .hbm, ⟨19, _⟩ => ⟨S64x64x64x64, .i32⟩
  | .hbm, ⟨20, _⟩ => ⟨S64x64x64x64, .i1⟩
  | .hbm, ⟨21, _⟩ => ⟨S64x64x64x64, .i32⟩
  | .hbm, ⟨22, _⟩ => ⟨S64x64x64x64, .i32⟩
  | .hbm, ⟨23, _⟩ => ⟨S64x64x64x64, .i32⟩
  | .hbm, ⟨24, _⟩ => ⟨S64x64x64x64, .i32⟩
  | .hbm, ⟨25, _⟩ => ⟨S64x64x64x64, .i1⟩
  | .hbm, ⟨26, _⟩ => ⟨S64x64x64x64, .i32⟩
  | .hbm, ⟨27, _⟩ => ⟨S64x64x64x64, .i32⟩
  | .hbm, ⟨28, _⟩ => ⟨S64x64x64x64, .i32⟩
  | .hbm, ⟨29, _⟩ => ⟨S64x64x64x64, .i32⟩
  | .hbm, ⟨30, _⟩ => ⟨S64x64x64x64, .i32⟩
  | .hbm, ⟨31, _⟩ => ⟨S64x64x64x64, .i1⟩
  | .hbm, ⟨32, _⟩ => ⟨S64x64x64x64, .i32⟩
  | .hbm, ⟨33, _⟩ => ⟨S64x64x64x64, .i32⟩
  | .hbm, ⟨34, _⟩ => ⟨S64x64x64x64, .i32⟩
  | .hbm, ⟨35, _⟩ => ⟨S64x64x64x64, .i32⟩
  | .hbm, ⟨36, _⟩ => ⟨S64x64x64x64, .i1⟩
  | .hbm, ⟨37, _⟩ => ⟨S64x64x64x64, .i32⟩
  | .hbm, ⟨38, _⟩ => ⟨S64x64x64x64, .i32⟩
  | .hbm, ⟨39, _⟩ => ⟨S64x64x64x64, .i32⟩
  | .hbm, ⟨40, _⟩ => ⟨S64x64x64x64, .i32⟩
  | .hbm, ⟨41, _⟩ => ⟨S64x64x64x64, .i32⟩
  | .hbm, ⟨42, _⟩ => ⟨S64x64x64x64, .i1⟩
  | .hbm, ⟨43, _⟩ => ⟨S64x64x64x64, .i32⟩
  | .hbm, ⟨44, _⟩ => ⟨S64x64x64x64, .i32⟩
  | .hbm, ⟨45, _⟩ => ⟨S64x64x64x64, .i32⟩
  | .hbm, ⟨46, _⟩ => ⟨S64x64x64x64, .i32⟩
  | .hbm, ⟨47, _⟩ => ⟨S64x64x64x64, .i1⟩
  | .hbm, ⟨48, _⟩ => ⟨S64x64x64x64, .i32⟩
  | .hbm, ⟨49, _⟩ => ⟨S64x64x64x64, .i32⟩
  | .hbm, ⟨50, _⟩ => ⟨S64x64x64x64, .i32⟩
  | .hbm, ⟨51, _⟩ => ⟨S64x64x64x64, .i32⟩
  | .hbm, ⟨52, _⟩ => ⟨S64x64x64x64, .i32⟩
  | .hbm, ⟨53, _⟩ => ⟨S64x64x64x64, .i1⟩
  | .hbm, ⟨54, _⟩ => ⟨S64x64x64x64, .i32⟩
  | .hbm, ⟨55, _⟩ => ⟨S64x64x64x64, .i32⟩
  | .hbm, ⟨56, _⟩ => ⟨S64x64x64x64, .i32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S64x64x64x64, .i32⟩
  | .hbm, ⟨65, _⟩ => ⟨S64x64x64x64, .i32⟩
  | .hbm, ⟨66, _⟩ => ⟨S64x64x64x64, .i32⟩
  | .hbm, ⟨67, _⟩ => ⟨S64x64x64x64, .i32⟩
  | .hbm, ⟨68, _⟩ => ⟨S64x64x64x64, .f32⟩
  | .hbm, ⟨69, _⟩ => ⟨S64x64x64x64, .f32⟩
  | .hbm, ⟨70, _⟩ => ⟨S64x64x64x64, .f32⟩
  | .hbm, ⟨71, _⟩ => ⟨S64x262144, .f32⟩
  | .hbm, ⟨72, _⟩ => ⟨S64x128, .f32⟩
  | .hbm, ⟨73, _⟩ => ⟨S64x1x1x128, .f32⟩
  | .hbm, ⟨74, _⟩ => ⟨S1x64x1x128, .f32⟩
  | .hbm, ⟨75, _⟩ => ⟨S64x64x1x128, .f32⟩
  | .hbm, ⟨76, _⟩ => ⟨S64x64x1x128, .f32⟩
  | .hbm, ⟨77, _⟩ => ⟨S64x64x1x128, .f32⟩
  | .hbm, ⟨78, _⟩ => ⟨S1x1x64x128, .f32⟩
  | .hbm, ⟨79, _⟩ => ⟨S64x64x64x128, .f32⟩
  | .hbm, ⟨80, _⟩ => ⟨S64x64x64x128, .f32⟩
  | .hbm, ⟨81, _⟩ => ⟨S64x64x64x128, .f32⟩
  | .hbm, ⟨82, _⟩ => ⟨S262144x128, .f32⟩
  | .hbm, ⟨83, _⟩ => ⟨S64x128, .f32⟩
  | .hbm, ⟨84, _⟩ => ⟨S128x64, .f32⟩
  | .hbm, ⟨85, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_cst : Ref sig .tc := ⟨.hbm, 57, rfl⟩
abbrev main_cst_0 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_cst_1 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩

abbrev nD : Nat := 1
abbrev τ : Topo := Topo.v7x

variable {F : FTy → Type} [FloatOps F]
-- ==== Proof.Trig.lean ====
/- THE DISCRETE FOURIER TRANSFORM OF LENGTH 255, over the real numbers. A sequence with real entries is known from its
   frequencies 0 … 127 (frequency 255 - f repeats f), so 128 cosines weighted 1, 2, 2, … detect the multiples of 255
   (`comb`), and the product of two such transforms, brought back, is the circular convolution (`circ`). -/
module

public import Mathlib.Analysis.SpecialFunctions.Trigonometric.Basic
public import Mathlib.Analysis.SpecialFunctions.Complex.Log
public import Mathlib.Algebra.Field.GeomSum
public import Mathlib.Algebra.BigOperators.Fin
public import Mathlib.Algebra.BigOperators.Intervals
public import Mathlib.Tactic.Ring
public import Mathlib.Tactic.Linarith
public import Mathlib.Tactic.LinearCombination
public import Mathlib.Tactic.Positivity
public import Mathlib.Tactic.NormNum

@[expose] public section

noncomputable section

namespace Cert.Modal

open Real Finset

/-- The angle between two neighbouring points of the circle of 255 points. -/
def step : ℝ := 2 * π / 255

/-- What frequency `f` weighs in the inverse transform: `1 / 255` at zero, twice that elsewhere. -/
def wt (f : ℕ) : ℝ := (if f = 0 then 1 else 2) / 255

theorem step_mul : (255 : ℝ) * step = 2 * π := by unfold step; ring

/-- The 255 cosines of the multiples of one angle of the circle add up to 255 or to nothing. -/
theorem sum_cos (d : ℤ) : ∑ k ∈ range 255, cos ((k : ℝ) * d * step) = if (255 : ℤ) ∣ d then 255 else 0 := by
  set z : ℂ := Complex.exp (((d : ℝ) * step : ℝ) * Complex.I) with hz
  have hpow (k : ℕ) : z ^ k = Complex.exp (((k : ℝ) * d * step : ℝ) * Complex.I) := by
    rw [hz, ← Complex.exp_nat_mul]; congr 1; push_cast; ring
  have hre (k : ℕ) : cos ((k : ℝ) * d * step) = (z ^ k).re := by
    rw [hpow, Complex.exp_ofReal_mul_I_re]
  have hsum : ∑ k ∈ range 255, cos ((k : ℝ) * d * step) = (∑ k ∈ range 255, z ^ k).re := by
    rw [Complex.re_sum]; exact sum_congr rfl fun k _ => hre k
  have hone : z ^ 255 = 1 := by
    rw [hpow, Complex.exp_eq_one_iff]
    refine ⟨d, ?_⟩
    have : (((255 : ℕ) : ℝ) * d * step : ℝ) = d * (2 * π) := by rw [← step_mul]; push_cast; ring
    rw [this]; push_cast; ring
  rw [hsum]
  split_ifs with h
  · have h1 : z = 1 := by
      obtain ⟨e, rfl⟩ := h
      rw [hz, Complex.exp_eq_one_iff]
      refine ⟨e, ?_⟩
      have : (((255 * e : ℤ) : ℝ) * step : ℝ) = e * (2 * π) := by rw [← step_mul]; push_cast; ring
      rw [this]; push_cast; ring
    simp [h1]
  · have h1 : z ≠ 1 := by
      intro hh
      rw [hz, Complex.exp_eq_one_iff] at hh
      obtain ⟨n, hn⟩ := hh
      apply h
      refine ⟨n, ?_⟩
      have hI : (((d : ℝ) * step : ℝ) : ℂ) = ((n * (2 * π) : ℝ) : ℂ) := by
        apply mul_right_cancel₀ Complex.I_ne_zero
        rw [hn]; push_cast; ring
      have hR : (d : ℝ) * step = n * (2 * π) := by exact_mod_cast hI
      have hR' : (d : ℝ) * (2 * π) = 255 * n * (2 * π) := by
        linear_combination 255 * hR - d * step_mul
      have : (d : ℝ) = 255 * n := mul_right_cancel₀ (by positivity) hR'
      exact_mod_cast this
    have := mul_geom_sum z 255
    rw [hone, sub_self] at this
    rcases mul_eq_zero.mp this with h2 | h2
    · exact absurd (sub_eq_zero.mp h2) h1
    · rw [h2]; rfl

/-- Frequency `255 - f` has the cosines of frequency `f`. -/
theorem cos_reflect (d : ℤ) (f : ℕ) (hf : f ≤ 255) :
    cos (((255 - f : ℕ) : ℝ) * d * step) = cos ((f : ℝ) * d * step) := by
  have : ((255 - f : ℕ) : ℝ) * d * step = d * (2 * π) - (f : ℝ) * d * step := by
    rw [← step_mul, Nat.cast_sub hf]; push_cast; ring
  rw [this, cos_int_mul_two_pi_sub]

/-- The weighted cosines of frequencies 0 … 127 are 1 at the multiples of 255 and 0 elsewhere. -/
theorem comb (d : ℤ) : ∑ f : Fin 128, wt f * cos ((f : ℝ) * d * step) = if (255 : ℤ) ∣ d then 1 else 0 := by
  have hs := sum_cos d
  set g : ℕ → ℝ := fun k => cos ((k : ℝ) * d * step) with hg
  have h1 : ∑ k ∈ range 255, g k = (∑ k ∈ range 128, g k) + ∑ k ∈ range 127, g (128 + k) :=
    sum_range_add g 128 127
  have h2 : ∑ k ∈ range 127, g (128 + k) = ∑ k ∈ range 127, g (k + 1) := by
    rw [← sum_range_reflect]
    refine sum_congr rfl fun k hk => ?_
    have hk' := mem_range.mp hk
    have : 128 + (127 - 1 - k) = 255 - (k + 1) := by omega
    rw [this]
    exact cos_reflect d (k + 1) (by omega)
  have h3 : ∑ k ∈ range 128, g k = (∑ k ∈ range 127, g (k + 1)) + g 0 := sum_range_succ' g 127
  have h4 : ∑ f : Fin 128, wt f * cos ((f : ℝ) * d * step) = ∑ f ∈ range 128, wt f * g f :=
    Fin.sum_univ_eq_sum_range (fun f => wt f * g f) 128
  have h5 : ∑ f ∈ range 128, wt f * g f = (∑ k ∈ range 127, wt (k + 1) * g (k + 1)) + wt 0 * g 0 :=
    sum_range_succ' (fun f => wt f * g f) 127
  have h6 : ∑ k ∈ range 127, wt (k + 1) * g (k + 1) = 2 / 255 * ∑ k ∈ range 127, g (k + 1) := by
    rw [mul_sum]; exact sum_congr rfl fun k _ => by simp [wt]
  have h7 : wt 0 = 1 / 255 := by simp [wt]
  have hs' : ∑ k ∈ range 255, g k = if (255 : ℤ) ∣ d then 255 else 0 := hs
  rw [h1, h2, h3] at hs'
  rw [h4, h5, h6, h7]
  split_ifs at hs' ⊢ with h <;> linarith

/-- The product of two transforms at one frequency, turned by an angle `γ`: its real part is the double sum of cosines. -/
theorem prod_turn {ι κ : Type} [Fintype ι] [Fintype κ] (u α : ι → ℝ) (w β : κ → ℝ) (γ : ℝ) :
    ((∑ i, u i * cos (α i)) * (∑ k, w k * cos (β k)) - (∑ i, u i * -sin (α i)) * (∑ k, w k * -sin (β k))) * cos γ
      - ((∑ i, u i * cos (α i)) * (∑ k, w k * -sin (β k)) + (∑ i, u i * -sin (α i)) * (∑ k, w k * cos (β k))) * sin γ
      = ∑ i, ∑ k, u i * w k * cos (γ - α i - β k) := by
  rw [sum_mul_sum, sum_mul_sum, sum_mul_sum, sum_mul_sum, ← sum_sub_distrib, ← sum_add_distrib, sum_mul, sum_mul, ← sum_sub_distrib]
  refine sum_congr rfl fun i _ => ?_
  rw [← sum_sub_distrib, ← sum_add_distrib, sum_mul, sum_mul, ← sum_sub_distrib]
  refine sum_congr rfl fun k _ => ?_
  rw [cos_sub, cos_sub, sin_sub]; ring

/-- CIRCULAR CONVOLUTION: the product of two transforms, brought back at `x`, collects the pairs whose places add up to
    `x` modulo 255. -/
theorem circ {ι κ : Type} [Fintype ι] [Fintype κ] (u : ι → ℝ) (α : ι → ℤ) (w : κ → ℝ) (β : κ → ℤ) (x : ℤ)
    (A B C D : Fin 128 → ℝ)
    (hA : ∀ f, A f = ∑ i, u i * cos ((f : ℝ) * α i * step)) (hB : ∀ f, B f = ∑ i, u i * -sin ((f : ℝ) * α i * step))
    (hC : ∀ f, C f = ∑ k, w k * cos ((f : ℝ) * β k * step)) (hD : ∀ f, D f = ∑ k, w k * -sin ((f : ℝ) * β k * step)) :
    ∑ f : Fin 128, wt f * ((A f * C f - B f * D f) * cos ((f : ℝ) * x * step) - (A f * D f + B f * C f) * sin ((f : ℝ) * x * step))
      = ∑ i, ∑ k, u i * w k * if (255 : ℤ) ∣ x - α i - β k then 1 else 0 := by
  have h (f : Fin 128) : wt f * ((A f * C f - B f * D f) * cos ((f : ℝ) * x * step) - (A f * D f + B f * C f) * sin ((f : ℝ) * x * step))
      = ∑ i, ∑ k, u i * w k * (wt f * cos ((f : ℝ) * ((x - α i - β k : ℤ) : ℝ) * step)) := by
    rw [hA, hB, hC, hD, prod_turn, mul_sum]
    refine sum_congr rfl fun i _ => ?_
    rw [mul_sum]
    refine sum_congr rfl fun k _ => ?_
    have : (f : ℝ) * x * step - (f : ℝ) * α i * step - (f : ℝ) * β k * step = (f : ℝ) * ((x - α i - β k : ℤ) : ℝ) * step := by
      push_cast; ring
    rw [this]; ring
  rw [sum_congr rfl fun f _ => h f, sum_comm]
  refine sum_congr rfl fun i _ => ?_
  rw [sum_comm]
  refine sum_congr rfl fun k _ => ?_
  rw [← mul_sum, comb]

end Cert.Modal

end
-- ==== Proof.Force.lean ====
/- THE EQUATION OVER THE REAL NUMBERS. The tables of the kernel with real entries (`fq`, `kc`, `gf`: every index a natural number,
   the pieces of a concatenation as the branches of an `if`), what the kernel body makes of one row `q` and these tables
   (`out`), the interaction numbers `inter` of the modes, and the equation: `out` is the contraction of `inter` with
   `q`, `q` and `q` (`out_eq`). -/
module

public import proofs.«01_k».proof.Proof.Trig

@[expose] public section

noncomputable section

namespace Cert.Modal

open Real Finset

/-! ## The tables -/

/-- The transform of the 64 modes: cosines, then negated sines. -/
def f1 (a j : ℕ) : ℝ := if j < 128 then cos (a * j * step) else -sin (a * (j - 128 : ℕ) * step)

def u2r (a g : ℕ) : ℝ := cos (a * g * step)
def u2i (a g : ℕ) : ℝ := -sin (a * g * step)
def phr (g : ℕ) : ℝ := cos (-63 * g * step)
def phi (g : ℕ) : ℝ := sin (-63 * g * step)

/-- The transform of the modes and that of the modes in reverse order. -/
def f2e (a j : ℕ) : ℝ :=
  if j < 128 then u2r a j else if j < 256 then u2i a (j - 128)
  else if j < 384 then u2r a (j - 256) * phr (j - 256) + u2i a (j - 256) * phi (j - 256)
  else u2r a (j - 384) * phi (j - 384) - u2i a (j - 384) * phr (j - 384)

/-- The first table, 64 × 1024. -/
def fq (a j : ℕ) : ℝ :=
  if j < 256 then ((a : ℝ) + 1) * f1 a j else if j < 512 then ((a : ℝ) + 1) * ((a : ℝ) + 1) * f1 a (j - 256)
  else ((a : ℝ) + 1) * f2e a (j - 512)

/-- `x - 63` modulo 255. -/
def wrap (x : ℕ) : ℕ := if x < 63 then x + 192 else x - 63

/-- The inverse transforms of the two products, 512 × 256. -/
def p1 (r z : ℕ) : ℝ :=
  if r < 128 then (if z < 128 then wt r * cos (r * z * step) else 0)
  else if r < 256 then (if z < 128 then -wt (r - 128) * sin ((r - 128 : ℕ) * z * step) else 0)
  else if r < 384 then (if z < 128 then 0 else wt (r - 256) * cos ((r - 256 : ℕ) * wrap (z - 128) * step))
  else (if z < 128 then 0 else -wt (r - 384) * sin ((r - 384 : ℕ) * wrap (z - 128) * step))

/-- The truth of a proposition as a number. -/
def one (p : Prop) [Decidable p] : ℝ := if p then 1 else 0

/-- How the two convolutions are assembled into the two sequences of the last stage, 256 × 256. -/
def asm (z y : ℕ) : ℝ :=
  if z < 128 then
    (if y < 128 then one (z = y ∧ y < 127) else one (z + 65 = y - 128 ∧ y - 128 < 127) - one (z + (y - 128) = 61))
  else
    (if y < 128 then one (z - 128 = y + 65 ∧ y < 62) - one (z - 128 + y = 61)
     else one (z - 128 = y - 128 ∧ y - 128 < 127) - one (z - 128 + (y - 128) = 126))

def t2 (y j : ℕ) : ℝ := if j < 128 then cos (y * j * step) else -sin (y * (j - 128 : ℕ) * step)

/-- The transforms of the two sequences, 256 × 512. -/
def k2 (y c : ℕ) : ℝ :=
  if y < 128 then (if c < 256 then t2 y c else 0) else (if c < 256 then 0 else t2 (y - 128) (c - 256))

def k1 (r y : ℕ) : ℝ := ∑ z : Fin 256, p1 r z * asm z y

/-- The second table, 512 × 512. -/
def kc (r c : ℕ) : ℝ := ∑ y : Fin 256, k1 r y * k2 y c

/-- The factor of every interaction. -/
def scale : ℝ := -1.5 * (π * π * (π * π))

/-- The third table, 256 × 64. -/
def gf (g m : ℕ) : ℝ :=
  (if g < 128 then wt g * cos (g * (m + 63 : ℕ) * step) else -wt (g - 128) * sin ((g - 128 : ℕ) * (m + 63 : ℕ) * step)) * scale

/-! ## What the kernel body computes of one row -/

section Body
variable (q : Fin 64 → ℝ)

def st (j : ℕ) : ℝ := ∑ a : Fin 64, q a * fq a j

def x1 (r : ℕ) : ℝ :=
  if r < 128 then st q r * st q (256 + r) - st q (128 + r) * st q (384 + r)
  else if r < 256 then st q (r - 128) * st q (384 + (r - 128)) + st q (128 + (r - 128)) * st q (256 + (r - 128))
  else if r < 384 then st q (r - 256) * st q (256 + (r - 256)) + st q (128 + (r - 256)) * st q (384 + (r - 256))
  else st q (r - 384) * st q (384 + (r - 384)) - st q (128 + (r - 384)) * st q (256 + (r - 384))

def hh (c : ℕ) : ℝ := ∑ r : Fin 512, x1 q r * kc r c

def os (g : ℕ) : ℝ :=
  if g < 128 then
    st q (768 + g) * hh q g - st q (896 + g) * hh q (128 + g) + st q (512 + g) * hh q (256 + g) - st q (640 + g) * hh q (384 + g)
  else
    st q (768 + (g - 128)) * hh q (128 + (g - 128)) + st q (896 + (g - 128)) * hh q (g - 128)
      + st q (512 + (g - 128)) * hh q (384 + (g - 128)) + st q (640 + (g - 128)) * hh q (256 + (g - 128))

def out (m : ℕ) : ℝ := ∑ g : Fin 256, os q g * gf g m
end Body

/-! ## The interaction numbers -/

/-- Where a product of a cosine and a sine of modes `k` and `i` meets the mode `t`. -/
def meet (k i t : ℤ) : ℤ :=
  (if k + i = t then 1 else 0) - (if k + i = -t then 1 else 0) + (if k - i = t then 1 else 0) - (if k - i = -t then 1 else 0)

/-- The interaction number of modes `m`, `i`, `j` and `k`, counted from zero. -/
def inter (m i j k : ℕ) : ℤ :=
  (i + 1) * (j + 1) * ((k + 1) * (k + 1)) * (meet (k + 1) (i + 1) (m + 1 + (j + 1)) + meet (k + 1) (i + 1) (m + 1 - (j + 1)))

/-! ## The proof -/

theorem sum256 (f : ℕ → ℝ) : ∑ r : Fin 256, f r = (∑ i : Fin 128, f i) + ∑ i : Fin 128, f (128 + i) := by
  rw [Fin.sum_univ_eq_sum_range f 256, Fin.sum_univ_eq_sum_range f 128, Fin.sum_univ_eq_sum_range (fun i => f (128 + i)) 128]
  exact sum_range_add f 128 128

theorem sum512 (f : ℕ → ℝ) : ∑ r : Fin 512, f r
    = (∑ i : Fin 128, f i) + (∑ i : Fin 128, f (128 + i)) + (∑ i : Fin 128, f (256 + i)) + ∑ i : Fin 128, f (384 + i) := by
  rw [Fin.sum_univ_eq_sum_range f 512, Fin.sum_univ_eq_sum_range f 128, Fin.sum_univ_eq_sum_range (fun i => f (128 + i)) 128,
    Fin.sum_univ_eq_sum_range (fun i => f (256 + i)) 128, Fin.sum_univ_eq_sum_range (fun i => f (384 + i)) 128]
  have h1 : ∑ i ∈ range 512, f i = (∑ i ∈ range 384, f i) + ∑ i ∈ range 128, f (384 + i) := sum_range_add f 384 128
  have h2 : ∑ i ∈ range 384, f i = (∑ i ∈ range 256, f i) + ∑ i ∈ range 128, f (256 + i) := sum_range_add f 256 128
  have h3 : ∑ i ∈ range 256, f i = (∑ i ∈ range 128, f i) + ∑ i ∈ range 128, f (128 + i) := sum_range_add f 128 128
  rw [h1, h2, h3]

/-- A sum that one place of `n` contributes to. -/
theorem sum_one {n : ℕ} (f : ℕ → ℝ) (e : ℕ) (he : e < n) : ∑ y : Fin n, f y * (if (y : ℕ) = e then 1 else 0) = f e := by
  rw [sum_eq_single (⟨e, he⟩ : Fin n)]
  · simp
  · intro b _ hb
    have : (b : ℕ) ≠ e := fun h => hb (Fin.ext h)
    simp [this]
  · intro h; exact absurd (mem_univ _) h

section
variable (q : Fin 64 → ℝ)

/-- A mode times its number, and times the number's square. -/
def u (a : Fin 64) : ℝ := q a * ((a : ℝ) + 1)
def w (a : Fin 64) : ℝ := q a * (((a : ℝ) + 1) * ((a : ℝ) + 1))

theorem st_ur (f : Fin 128) : st q f = ∑ a, u q a * cos ((f : ℝ) * ((a : ℕ) : ℤ) * step) := by
  refine sum_congr rfl fun a _ => ?_
  rw [fq, if_pos (by omega), f1, if_pos (by omega), u, mul_comm ((a : ℕ) : ℝ) ((f : ℕ) : ℝ)]
  push_cast; ring

theorem st_ui (f : Fin 128) : st q (128 + f) = ∑ a, u q a * -sin ((f : ℝ) * ((a : ℕ) : ℤ) * step) := by
  refine sum_congr rfl fun a _ => ?_
  rw [fq, if_pos (by omega), f1, if_neg (by omega), u, Nat.add_sub_cancel_left, mul_comm ((a : ℕ) : ℝ) ((f : ℕ) : ℝ)]
  push_cast; ring

theorem st_wr (f : Fin 128) : st q (256 + f) = ∑ a, w q a * cos ((f : ℝ) * ((a : ℕ) : ℤ) * step) := by
  refine sum_congr rfl fun a _ => ?_
  rw [fq, if_neg (by omega), if_pos (by omega), f1, if_pos (by omega), w, Nat.add_sub_cancel_left, mul_comm ((a : ℕ) : ℝ) ((f : ℕ) : ℝ)]
  push_cast; ring

theorem st_wi (f : Fin 128) : st q (384 + f) = ∑ a, w q a * -sin ((f : ℝ) * ((a : ℕ) : ℤ) * step) := by
  refine sum_congr rfl fun a _ => ?_
  have h : 384 + (f : ℕ) - 256 - 128 = f := by omega
  rw [fq, if_neg (by omega), if_pos (by omega), f1, if_neg (by omega), w, h, mul_comm ((a : ℕ) : ℝ) ((f : ℕ) : ℝ)]
  push_cast; ring

theorem st_u2r (f : Fin 128) : st q (512 + f) = ∑ a, u q a * cos ((f : ℝ) * ((a : ℕ) : ℤ) * step) := by
  refine sum_congr rfl fun a _ => ?_
  rw [fq, if_neg (by omega), if_neg (by omega), f2e, if_pos (by omega), u, u2r, Nat.add_sub_cancel_left, mul_comm ((a : ℕ) : ℝ) ((f : ℕ) : ℝ)]
  push_cast; ring

theorem st_u2i (f : Fin 128) : st q (640 + f) = ∑ a, u q a * -sin ((f : ℝ) * ((a : ℕ) : ℤ) * step) := by
  refine sum_congr rfl fun a _ => ?_
  have h : 640 + (f : ℕ) - 512 - 128 = f := by omega
  rw [fq, if_neg (by omega), if_neg (by omega), f2e, if_neg (by omega), if_pos (by omega), u, u2i, h, mul_comm ((a : ℕ) : ℝ) ((f : ℕ) : ℝ)]
  push_cast; ring

theorem st_ufr (f : Fin 128) : st q (768 + f) = ∑ a, u q a * cos ((f : ℝ) * ((63 - (a : ℕ) : ℤ)) * step) := by
  refine sum_congr rfl fun a _ => ?_
  have h : 768 + (f : ℕ) - 512 - 256 = f := by omega
  have e : (f : ℝ) * ((63 - (a : ℕ) : ℤ) : ℝ) * step = -(((a : ℕ) : ℝ) * f * step + -63 * f * step) := by push_cast; ring
  rw [fq, if_neg (by omega), if_neg (by omega), f2e, if_neg (by omega), if_neg (by omega), if_pos (by omega), u, u2r, u2i, phr, phi, h, e,
    cos_neg, cos_add]
  ring

theorem st_ufi (f : Fin 128) : st q (896 + f) = ∑ a, u q a * -sin ((f : ℝ) * ((63 - (a : ℕ) : ℤ)) * step) := by
  refine sum_congr rfl fun a _ => ?_
  have h : 896 + (f : ℕ) - 512 - 384 = f := by omega
  have e : (f : ℝ) * ((63 - (a : ℕ) : ℤ) : ℝ) * step = -(((a : ℕ) : ℝ) * f * step + -63 * f * step) := by push_cast; ring
  rw [fq, if_neg (by omega), if_neg (by omega), f2e, if_neg (by omega), if_neg (by omega), if_neg (by omega), u, u2r, u2i, phr, phi, h, e,
    sin_neg, sin_add]
  ring

theorem x1_0 (f : Fin 128) : x1 q f = st q f * st q (256 + f) - st q (128 + f) * st q (384 + f) := by
  rw [x1, if_pos (by omega)]
theorem x1_1 (f : Fin 128) : x1 q (128 + f) = st q f * st q (384 + f) + st q (128 + f) * st q (256 + f) := by
  rw [x1, if_neg (by omega), if_pos (by omega), Nat.add_sub_cancel_left]
theorem x1_2 (f : Fin 128) : x1 q (256 + f) = st q f * st q (256 + f) + st q (128 + f) * st q (384 + f) := by
  rw [x1, if_neg (by omega), if_neg (by omega), if_pos (by omega), Nat.add_sub_cancel_left]
theorem x1_3 (f : Fin 128) : x1 q (384 + f) = st q f * st q (384 + f) - st q (128 + f) * st q (256 + f) := by
  rw [x1, if_neg (by omega), if_neg (by omega), if_neg (by omega), Nat.add_sub_cancel_left]

/-- The two convolutions: of the modes, and of the reversed modes with the modes. -/
def cd (z : ℕ) : ℝ := ∑ r : Fin 512, x1 q r * p1 r z

theorem cd_low (x : ℕ) (hx : x < 128) : cd q x = ∑ a : Fin 64, ∑ k : Fin 64, u q a * w q k * if x = a + k then 1 else 0 := by
  have h := circ (u q) (fun a => ((a : ℕ) : ℤ)) (w q) (fun a => ((a : ℕ) : ℤ)) (x : ℤ) (fun f => st q f) (fun f => st q (128 + f))
    (fun f => st q (256 + f)) (fun f => st q (384 + f)) (st_ur q) (st_ui q) (st_wr q) (st_wi q)
  have e : cd q x = ∑ f : Fin 128, wt f * ((st q f * st q (256 + f) - st q (128 + f) * st q (384 + f)) * cos ((f : ℝ) * (x : ℤ) * step)
      - (st q f * st q (384 + f) + st q (128 + f) * st q (256 + f)) * sin ((f : ℝ) * (x : ℤ) * step)) := by
    rw [cd, sum512 (fun r => x1 q r * p1 r x), ← sum_add_distrib, ← sum_add_distrib, ← sum_add_distrib]
    refine sum_congr rfl fun f _ => ?_
    rw [x1_0, x1_1, x1_2, x1_3]
    have p0 : p1 f x = wt f * cos ((f : ℝ) * x * step) := by rw [p1, if_pos (by omega), if_pos hx]
    have p1' : p1 (128 + f) x = -wt f * sin ((f : ℝ) * x * step) := by
      rw [p1, if_neg (by omega), if_pos (by omega), if_pos hx, Nat.add_sub_cancel_left]
    have p2 : p1 (256 + f) x = 0 := by rw [p1, if_neg (by omega), if_neg (by omega), if_pos (by omega), if_pos hx]
    have p3 : p1 (384 + f) x = 0 := by rw [p1, if_neg (by omega), if_neg (by omega), if_neg (by omega), if_pos hx]
    rw [p0, p1', p2, p3]; push_cast; ring
  rw [e, h]
  refine sum_congr rfl fun a _ => sum_congr rfl fun k _ => ?_
  congr 1
  exact if_congr (by omega) rfl rfl

theorem cd_high (x : ℕ) (hx : x < 128) :
    cd q (128 + x) = ∑ a : Fin 64, ∑ k : Fin 64, u q a * w q k * if x + a = 63 + k then 1 else 0 := by
  have hB (f : Fin 128) : -st q (128 + f) = ∑ a, u q a * -sin ((f : ℝ) * ((-((a : ℕ) : ℤ) : ℤ) : ℝ) * step) := by
    rw [st_ui, ← sum_neg_distrib]
    refine sum_congr rfl fun a _ => ?_
    have : (f : ℝ) * ((-((a : ℕ) : ℤ) : ℤ) : ℝ) * step = -((f : ℝ) * (((a : ℕ) : ℤ) : ℝ) * step) := by push_cast; ring
    rw [this, sin_neg]; ring
  have hA (f : Fin 128) : st q f = ∑ a, u q a * cos ((f : ℝ) * ((-((a : ℕ) : ℤ) : ℤ) : ℝ) * step) := by
    rw [st_ur]
    refine sum_congr rfl fun a _ => ?_
    have : (f : ℝ) * ((-((a : ℕ) : ℤ) : ℤ) : ℝ) * step = -((f : ℝ) * (((a : ℕ) : ℤ) : ℝ) * step) := by push_cast; ring
    rw [this, cos_neg]
  have h := circ (u q) (fun a => -((a : ℕ) : ℤ)) (w q) (fun a => ((a : ℕ) : ℤ)) (wrap x : ℤ) (fun f => st q f) (fun f => -st q (128 + f))
    (fun f => st q (256 + f)) (fun f => st q (384 + f)) hA hB (st_wr q) (st_wi q)
  have e : cd q (128 + x) = ∑ f : Fin 128, wt f * ((st q f * st q (256 + f) - -st q (128 + f) * st q (384 + f)) * cos ((f : ℝ) * (wrap x : ℤ) * step)
      - (st q f * st q (384 + f) + -st q (128 + f) * st q (256 + f)) * sin ((f : ℝ) * (wrap x : ℤ) * step)) := by
    rw [cd, sum512 (fun r => x1 q r * p1 r (128 + x)), ← sum_add_distrib, ← sum_add_distrib, ← sum_add_distrib]
    refine sum_congr rfl fun f _ => ?_
    rw [x1_0, x1_1, x1_2, x1_3]
    have p0 : p1 f (128 + x) = 0 := by rw [p1, if_pos (by omega), if_neg (by omega)]
    have p1' : p1 (128 + f) (128 + x) = 0 := by
      rw [p1, if_neg (by omega), if_pos (by omega), if_neg (by omega)]
    have p2 : p1 (256 + f) (128 + x) = wt f * cos ((f : ℝ) * wrap x * step) := by
      rw [p1, if_neg (by omega), if_neg (by omega), if_pos (by omega), if_neg (by omega), Nat.add_sub_cancel_left, Nat.add_sub_cancel_left]
    have p3 : p1 (384 + f) (128 + x) = -wt f * sin ((f : ℝ) * wrap x * step) := by
      rw [p1, if_neg (by omega), if_neg (by omega), if_neg (by omega), if_neg (by omega), Nat.add_sub_cancel_left, Nat.add_sub_cancel_left]
    rw [p0, p1', p2, p3]; push_cast; ring
  rw [e, h]
  refine sum_congr rfl fun a _ => sum_congr rfl fun k _ => ?_
  congr 1
  refine if_congr ?_ rfl rfl
  unfold wrap
  split_ifs <;> omega

/-- The two sequences of the last stage. -/
def seq (y : ℕ) : ℝ := ∑ z : Fin 256, cd q z * asm z y

theorem seq_eq (y : ℕ) : seq q y = ∑ a : Fin 64, ∑ k : Fin 64, u q a * w q k * (asm (a + k) y + asm (128 + (63 + k - a)) y) := by
  rw [seq, sum256 (fun z => cd q z * asm z y)]
  have h1 : ∑ z : Fin 128, cd q z * asm z y = ∑ a : Fin 64, ∑ k : Fin 64, u q a * w q k * asm (a + k) y := by
    have (z : Fin 128) : cd q z * asm z y = ∑ a : Fin 64, ∑ k : Fin 64, u q a * w q k * (asm z y * if (z : ℕ) = a + k then 1 else 0) := by
      rw [cd_low q z (by omega), sum_mul]
      refine sum_congr rfl fun a _ => ?_
      rw [sum_mul]; exact sum_congr rfl fun k _ => by ring
    rw [sum_congr rfl fun z _ => this z, sum_comm]
    refine sum_congr rfl fun a _ => ?_
    rw [sum_comm]
    refine sum_congr rfl fun k _ => ?_
    rw [← mul_sum, sum_one (fun z => asm z y) _ (by omega)]
  have h2 : ∑ z : Fin 128, cd q (128 + z) * asm (128 + z) y = ∑ a : Fin 64, ∑ k : Fin 64, u q a * w q k * asm (128 + (63 + k - a)) y := by
    have (z : Fin 128) : cd q (128 + z) * asm (128 + z) y
        = ∑ a : Fin 64, ∑ k : Fin 64, u q a * w q k * (asm (128 + z) y * if (z : ℕ) = 63 + k - a then 1 else 0) := by
      rw [cd_high q z (by omega), sum_mul]
      refine sum_congr rfl fun a _ => ?_
      rw [sum_mul]
      refine sum_congr rfl fun k _ => ?_
      rw [if_congr (show ((z : ℕ) + a = 63 + k ↔ (z : ℕ) = 63 + k - a) by omega) rfl rfl]; ring
    rw [sum_congr rfl fun z _ => this z, sum_comm]
    refine sum_congr rfl fun a _ => ?_
    rw [sum_comm]
    refine sum_congr rfl fun k _ => ?_
    rw [← mul_sum, sum_one (fun z => asm (128 + z) y) _ (by omega)]
  rw [h1, h2, ← sum_add_distrib]
  refine sum_congr rfl fun a _ => ?_
  rw [← sum_add_distrib]; exact sum_congr rfl fun k _ => by ring

theorem hh_eq (c : ℕ) : hh q c = ∑ y : Fin 256, seq q y * k2 y c := by
  have h (r : Fin 512) : x1 q r * kc r c = ∑ y : Fin 256, ∑ z : Fin 256, x1 q r * p1 r z * (asm z y * k2 y c) := by
    rw [kc, mul_sum]
    refine sum_congr rfl fun y _ => ?_
    rw [k1, sum_mul, mul_sum]; exact sum_congr rfl fun z _ => by ring
  rw [hh, sum_congr rfl fun r _ => h r, sum_comm]
  refine sum_congr rfl fun y _ => ?_
  rw [sum_comm, seq, sum_mul]
  refine sum_congr rfl fun z _ => ?_
  rw [cd, ← sum_mul]; ring

theorem hh_0 (g : Fin 128) : hh q g = ∑ y : Fin 128, seq q y * cos ((g : ℝ) * ((y : ℕ) : ℤ) * step) := by
  rw [hh_eq, sum256 (fun y => seq q y * k2 y g), ← sum_add_distrib]
  refine sum_congr rfl fun y _ => ?_
  rw [k2, if_pos (by omega), if_pos (by omega), k2, if_neg (by omega), if_pos (by omega), t2, if_pos (by omega), mul_comm ((y : ℕ) : ℝ)]
  push_cast; ring

theorem hh_1 (g : Fin 128) : hh q (128 + g) = ∑ y : Fin 128, seq q y * -sin ((g : ℝ) * ((y : ℕ) : ℤ) * step) := by
  rw [hh_eq, sum256 (fun y => seq q y * k2 y (128 + g)), ← sum_add_distrib]
  refine sum_congr rfl fun y _ => ?_
  rw [k2, if_pos (by omega), if_pos (by omega), k2, if_neg (by omega), if_pos (by omega), t2, if_neg (by omega), Nat.add_sub_cancel_left,
    mul_comm ((y : ℕ) : ℝ)]
  push_cast; ring

theorem hh_2 (g : Fin 128) : hh q (256 + g) = ∑ y : Fin 128, seq q (128 + y) * cos ((g : ℝ) * ((y : ℕ) : ℤ) * step) := by
  rw [hh_eq, sum256 (fun y => seq q y * k2 y (256 + g)), ← sum_add_distrib]
  refine sum_congr rfl fun y _ => ?_
  rw [k2, if_pos (by omega), if_neg (by omega), k2, if_neg (by omega), if_neg (by omega), Nat.add_sub_cancel_left, Nat.add_sub_cancel_left,
    t2, if_pos (by omega), mul_comm ((y : ℕ) : ℝ)]
  push_cast; ring

theorem hh_3 (g : Fin 128) : hh q (384 + g) = ∑ y : Fin 128, seq q (128 + y) * -sin ((g : ℝ) * ((y : ℕ) : ℤ) * step) := by
  rw [hh_eq, sum256 (fun y => seq q y * k2 y (384 + g)), ← sum_add_distrib]
  refine sum_congr rfl fun y _ => ?_
  have h : 384 + (g : ℕ) - 256 - 128 = g := by omega
  rw [k2, if_pos (by omega), if_neg (by omega), k2, if_neg (by omega), if_neg (by omega), Nat.add_sub_cancel_left,
    t2, if_neg (by omega), h, mul_comm ((y : ℕ) : ℝ)]
  push_cast; ring

/-- The last stage brings the two sequences back at `m + j` and `m - j`. -/
theorem out_seq (m : ℕ) (hm : m < 64) : out q m = scale * ∑ j : Fin 64, u q j * (seq q (m + j) + seq q (128 + (m + 63 - j))) := by
  have hF := circ (u q) (fun a => (63 - (a : ℕ) : ℤ)) (fun y : Fin 128 => seq q y) (fun y => ((y : ℕ) : ℤ)) ((m + 63 : ℕ) : ℤ)
    (fun g => st q (768 + g)) (fun g => st q (896 + g)) (fun g => hh q g) (fun g => hh q (128 + g)) (st_ufr q) (st_ufi q) (hh_0 q) (hh_1 q)
  have hU := circ (u q) (fun a => ((a : ℕ) : ℤ)) (fun y : Fin 128 => seq q (128 + y)) (fun y => ((y : ℕ) : ℤ)) ((m + 63 : ℕ) : ℤ)
    (fun g => st q (512 + g)) (fun g => st q (640 + g)) (fun g => hh q (256 + g)) (fun g => hh q (384 + g)) (st_u2r q) (st_u2i q) (hh_2 q) (hh_3 q)
  have hF' : (∑ i : Fin 64, ∑ k : Fin 128, u q i * seq q k * if (255 : ℤ) ∣ ((m + 63 : ℕ) : ℤ) - (63 - (i : ℕ) : ℤ) - ((k : ℕ) : ℤ) then 1 else 0)
      = ∑ j : Fin 64, u q j * seq q (m + j) := by
    refine sum_congr rfl fun j _ => ?_
    rw [← sum_one (n := 128) (fun y => seq q y) (m + j) (by omega), mul_sum]
    refine sum_congr rfl fun y _ => ?_
    rw [if_congr (show ((255 : ℤ) ∣ ((m + 63 : ℕ) : ℤ) - (63 - (j : ℕ) : ℤ) - ((y : ℕ) : ℤ) ↔ (y : ℕ) = m + j) by omega) rfl rfl]; ring
  have hU' : (∑ i : Fin 64, ∑ k : Fin 128, u q i * seq q (128 + k) * if (255 : ℤ) ∣ ((m + 63 : ℕ) : ℤ) - ((i : ℕ) : ℤ) - ((k : ℕ) : ℤ) then 1 else 0)
      = ∑ j : Fin 64, u q j * seq q (128 + (m + 63 - j)) := by
    refine sum_congr rfl fun j _ => ?_
    rw [← sum_one (n := 128) (fun y => seq q (128 + y)) (m + 63 - j) (by omega), mul_sum]
    refine sum_congr rfl fun y _ => ?_
    rw [if_congr (show ((255 : ℤ) ∣ ((m + 63 : ℕ) : ℤ) - ((j : ℕ) : ℤ) - ((y : ℕ) : ℤ) ↔ (y : ℕ) = m + 63 - j) by omega) rfl rfl]; ring
  have e : (∑ j : Fin 64, u q j * (seq q (m + j) + seq q (128 + (m + 63 - j))))
      = (∑ j : Fin 64, u q j * seq q (m + j)) + ∑ j : Fin 64, u q j * seq q (128 + (m + 63 - j)) := by
    rw [← sum_add_distrib]; exact sum_congr rfl fun j _ => by ring
  rw [e, ← hF', ← hU', ← hF, ← hU, ← sum_add_distrib, mul_sum, out, sum256 (fun g => os q g * gf g m), ← sum_add_distrib]
  refine sum_congr rfl fun g _ => ?_
  rw [os, if_pos (by omega), os, if_neg (by omega), gf, if_pos (by omega), gf, if_neg (by omega), Nat.add_sub_cancel_left]
  push_cast; ring

/-- THE ASSEMBLY: what a pair of modes gives the two sequences at `m + j` and `m - j` is the sum of the meetings. -/
theorem asm_meet (m j a k : ℕ) (hm : m < 64) (hj : j < 64) (ha : a < 64) (hk : k < 64) :
    (asm (a + k) (m + j) + asm (128 + (63 + k - a)) (m + j)) + (asm (a + k) (128 + (m + 63 - j)) + asm (128 + (63 + k - a)) (128 + (m + 63 - j)))
      = ((meet (k + 1) (a + 1) (m + 1 + (j + 1)) + meet (k + 1) (a + 1) (m + 1 - (j + 1)) : ℤ) : ℝ) := by
  have hz : a + k < 128 := by omega
  have hz' : ¬ 128 + (63 + k - a) < 128 := by omega
  have hy : m + j < 128 := by omega
  have hy' : ¬ 128 + (m + 63 - j) < 128 := by omega
  have e1 : 128 + (63 + k - a) - 128 = 63 + k - a := by omega
  have e2 : 128 + (m + 63 - j) - 128 = m + 63 - j := by omega
  rw [asm, if_pos hz, if_pos hy, asm, if_neg hz', if_pos hy, asm, if_pos hz, if_neg hy', asm, if_neg hz', if_neg hy', e1, e2, meet, meet]
  have c1 : one (a + k = m + j ∧ m + j < 127) = ((if (k : ℤ) + 1 + (a + 1) = m + 1 + (j + 1) then 1 else 0 : ℤ) : ℝ) := by
    rw [one]; push_cast; exact if_congr (by omega) rfl rfl
  have c2 : one (63 + k - a = m + j + 65 ∧ m + j < 62) = ((if (k : ℤ) + 1 - (a + 1) = m + 1 + (j + 1) then 1 else 0 : ℤ) : ℝ) := by
    rw [one]; push_cast; exact if_congr (by omega) rfl rfl
  have c3 : one (63 + k - a + (m + j) = 61) = ((if (k : ℤ) + 1 - (a + 1) = -(m + 1 + (j + 1)) then 1 else 0 : ℤ) : ℝ) := by
    rw [one]; push_cast; exact if_congr (by omega) rfl rfl
  have c4 : ((if (k : ℤ) + 1 + (a + 1) = -(m + 1 + (j + 1)) then 1 else 0 : ℤ) : ℝ) = 0 := by
    rw [if_neg (by omega)]; norm_num
  have d1 : one (a + k + 65 = m + 63 - j ∧ m + 63 - j < 127) = ((if (k : ℤ) + 1 + (a + 1) = m + 1 - (j + 1) then 1 else 0 : ℤ) : ℝ) := by
    rw [one]; push_cast; exact if_congr (by omega) rfl rfl
  have d2 : one (a + k + (m + 63 - j) = 61) = ((if (k : ℤ) + 1 + (a + 1) = -(m + 1 - (j + 1)) then 1 else 0 : ℤ) : ℝ) := by
    rw [one]; push_cast; exact if_congr (by omega) rfl rfl
  have d3 : one (63 + k - a = m + 63 - j ∧ m + 63 - j < 127) = ((if (k : ℤ) + 1 - (a + 1) = m + 1 - (j + 1) then 1 else 0 : ℤ) : ℝ) := by
    rw [one]; push_cast; exact if_congr (by omega) rfl rfl
  have d4 : one (63 + k - a + (m + 63 - j) = 126) = ((if (k : ℤ) + 1 - (a + 1) = -(m + 1 - (j + 1)) then 1 else 0 : ℤ) : ℝ) := by
    rw [one]; push_cast; exact if_congr (by omega) rfl rfl
  rw [c1, c2, c3, d1, d2, d3, d4, Int.cast_add, Int.cast_sub, Int.cast_add, Int.cast_sub, c4, Int.cast_sub, Int.cast_add, Int.cast_sub]
  ring

/-- THE EQUATION: the kernel's row is the contraction of the interaction numbers with three copies of the modes. -/
theorem out_eq (m : ℕ) (hm : m < 64) :
    out q m = scale * ∑ i : Fin 64, ∑ j : Fin 64, ∑ k : Fin 64, (inter m i j k : ℝ) * (q i * q j * q k) := by
  rw [out_seq q m hm]
  congr 1
  rw [sum_comm]
  refine sum_congr rfl fun j _ => ?_
  rw [seq_eq, seq_eq, ← sum_add_distrib, mul_sum]
  refine sum_congr rfl fun a _ => ?_
  rw [← sum_add_distrib, mul_sum]
  refine sum_congr rfl fun k _ => ?_
  rw [← mul_add, asm_meet m j a k hm j.isLt a.isLt k.isLt, inter, u, u, w]
  push_cast; ring

end

end Cert.Modal

end
-- ==== Proof.Scalars.lean ====
/- THE NUMBERS OF THE PROGRAMS as extended reals: the float constants, the circle number as the angle of the point (-1, 0), small
   integers converted to floats, the truth of an integer comparison as a float. -/
module

public import proofs.«01_k».proof.Proof.Force
public import Idealize.ShloMosaic.PureOps.Ideal
public import Idealize.ShloMosaic.Lib.Pointwise

@[expose] public section

noncomputable section

namespace Cert.Modal

open Idealize.ShloMosaic

theorem bits_two : Ideal.ofBits .f32 0x40000000#32 = ((2 : ℝ) : EReal) := by
  simp [Ideal.ofBits, Ideal.ieee, -EReal.coe_mul]; norm_num

theorem bits_255 : Ideal.ofBits .f32 0x437F0000#32 = ((255 : ℝ) : EReal) := by
  simp [Ideal.ofBits, Ideal.ieee, -EReal.coe_mul]; norm_num

theorem bits_half : Ideal.ofBits .f32 0x3F000000#32 = ((0.5 : ℝ) : EReal) := by
  simp [Ideal.ofBits, Ideal.ieee, -EReal.coe_mul]; norm_num

theorem bits_neg_one : Ideal.ofBits .f32 0xBF800000#32 = ((-1 : ℝ) : EReal) := by
  simp [Ideal.ofBits, Ideal.ieee, -EReal.coe_mul, -EReal.coe_neg]; norm_num

theorem bits_neg_63 : Ideal.ofBits .f32 0xC27C0000#32 = ((-63 : ℝ) : EReal) := by
  simp [Ideal.ofBits, Ideal.ieee, -EReal.coe_mul, -EReal.coe_neg]; norm_num

theorem bits_neg_three_halves : Ideal.ofBits .f32 0xBFC00000#32 = ((-1.5 : ℝ) : EReal) := by
  simp [Ideal.ofBits, Ideal.ieee, -EReal.coe_mul, -EReal.coe_neg]; norm_num

/-- Division of real numbers, the divisor not zero. -/
theorem div_real (x y : ℝ) (h : y ≠ 0) : Ideal.div (x : EReal) (y : EReal) = ((x / y : ℝ) : EReal) := by
  rw [Ideal.div_coe h, ← EReal.coe_mul, one_div, div_eq_mul_inv]

/-- A sum of real numbers. -/
theorem sum_real {ι : Type} [Fintype ι] (f : ι → ℝ) : ∑ i, ((f i : ℝ) : EReal) = ((∑ i, f i : ℝ) : EReal) := by
  classical
  refine Finset.induction_on (Finset.univ : Finset ι) (by simp) fun a s ha ih => ?_
  rw [Finset.sum_insert ha, Finset.sum_insert ha, ih, EReal.coe_add]

/-- The angle of the point (-1, 0) is half a turn. -/
theorem angle_pi : Ideal.atan2 0 (Ideal.ofBits .f32 0xBF800000#32) = ((Real.pi : ℝ) : EReal) := by
  rw [bits_neg_one, ← EReal.coe_zero]
  change (((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ)) : EReal) = _
  rw [if_neg (by norm_num), if_pos (by norm_num), if_pos le_rfl, zero_div, Real.arctan_zero, zero_add]

/-- The angle between two points of the circle, as the host computes it. -/
theorem host_step : Ideal.div (Ideal.ofBits .f32 0x40000000#32 * Ideal.atan2 0 (Ideal.ofBits .f32 0xBF800000#32)) (Ideal.ofBits .f32 0x437F0000#32)
    = ((step : ℝ) : EReal) := by
  rw [angle_pi, bits_two, bits_255, ← EReal.coe_mul, div_real _ _ (by norm_num), step]

/-- A small natural number written as a word, converted to a float. -/
theorem word_nat (n : ℕ) (h : n < 2 ^ 31) : FloatOps.sitofp (F := Ideal) .f32 (BitVec.ofNat 32 n) = ((n : ℝ) : EReal) := by
  have e : (BitVec.ofNat 32 n).toInt = n := by
    rw [BitVec.toInt_eq_toNat_of_lt (by rw [BitVec.toNat_ofNat]; omega), BitVec.toNat_ofNat]; omega
  show (((BitVec.ofNat 32 n).toInt : ℝ) : EReal) = _
  rw [e]; push_cast; rfl

/-- The weight of a frequency, as the host computes it. -/
theorem host_wt (f : ℕ) (hf : f < 2 ^ 31) : Ideal.div (if FloatOps.sitofp (F := Ideal) .f32 (BitVec.ofNat 32 f) = (0 : EReal) then (1 : EReal) else Ideal.ofBits .f32 0x40000000#32)
    (Ideal.ofBits .f32 0x437F0000#32) = ((wt f : ℝ) : EReal) := by
  rw [word_nat _ hf, bits_two, bits_255]
  by_cases h : f = 0
  · rw [if_pos (by rw [h]; simp), ← EReal.coe_one, div_real _ _ (by norm_num), wt, if_pos h]
  · rw [if_neg, div_real _ _ (by norm_num), wt, if_neg h]
    rw [← EReal.coe_zero, EReal.coe_eq_coe_iff]; exact_mod_cast h

/-! ## Words -/

theorem word_add (a b : ℕ) : IntOp.addi (BitVec.ofNat 32 a) (BitVec.ofNat 32 b) = BitVec.ofNat 32 (a + b) :=
  (BitVec.ofNat_add a b).symm

theorem word_eq (a b : ℕ) (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toNat_inj, BitVec.toNat_ofNat, BitVec.toNat_ofNat]
  omega

theorem word_lt (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [Bool.eq_iff_iff, BitVec.slt_iff_toInt_lt, decide_eq_true_iff,
    BitVec.toInt_eq_toNat_of_lt (by rw [BitVec.toNat_ofNat]; omega), BitVec.toInt_eq_toNat_of_lt (by rw [BitVec.toNat_ofNat]; omega),
    BitVec.toNat_ofNat, BitVec.toNat_ofNat]
  omega

theorem word_and (p q : Bool) : IntOp.andi (BitVec.ofBool p) (BitVec.ofBool q) = BitVec.ofBool (p && q) := by
  cases p <;> cases q <;> rfl

theorem word_one (p : Prop) [Decidable p] : FloatOps.uitofp (F := Ideal) .f32 (BitVec.ofBool (decide p)) = ((one p : ℝ) : EReal) := by
  show (((BitVec.ofBool (decide p)).toNat : ℝ) : EReal) = _
  by_cases h : p <;> simp [one, h]

theorem wrap_word (y : Fin 128) :
    Scalar.select
      (IntOp.andi (IntOp.cmpi .ne (IntOp.cmpi .slt (IntOp.remsi ArithUnit.host (IntOp.subi (BitVec.ofNat 32 y) 63#32) (Scalar.select (IntOp.cmpi .eq 255#32 0#32) 1#32 255#32)) 0#32) (IntOp.cmpi .slt (Scalar.select (IntOp.cmpi .eq 255#32 0#32) 1#32 255#32) 0#32))
        (IntOp.cmpi .ne (IntOp.remsi ArithUnit.host (IntOp.subi (BitVec.ofNat 32 y) 63#32) (Scalar.select (IntOp.cmpi .eq 255#32 0#32) 1#32 255#32)) 0#32))
      (IntOp.addi (IntOp.remsi ArithUnit.host (IntOp.subi (BitVec.ofNat 32 y) 63#32) (Scalar.select (IntOp.cmpi .eq 255#32 0#32) 1#32 255#32)) (Scalar.select (IntOp.cmpi .eq 255#32 0#32) 1#32 255#32))
      (IntOp.remsi ArithUnit.host (IntOp.subi (BitVec.ofNat 32 y) 63#32) (Scalar.select (IntOp.cmpi .eq 255#32 0#32) 1#32 255#32)) = BitVec.ofNat 32 (wrap y) := by
  have hd : (Scalar.select (IntOp.cmpi .eq 255#32 0#32) 1#32 255#32) = 255#32 := by decide
  have hr (x : BitVec 32) : IntOp.remsi ArithUnit.host x 255#32 = x.srem 255#32 := by
    rw [IntOp.remsi, if_neg]
    rintro (h | ⟨_, h⟩) <;> exact absurd h (by decide)
  rw [hd, hr]
  revert y; decide +kernel

end Cert.Modal

end
-- ==== Proof.KernelValue.lean ====
/- WHAT THE KERNEL BODY COMPUTES of a block of rows and the three tables, all with real entries: row `b` of its result is `out` of row
   `b` (`body_at`). The theorems before it take the body's stages one by one. -/
module

public import proofs.«01_k».proof.Proof.Gen.KernelIdeal.Value
public import proofs.«01_k».proof.Proof.Scalars
public import Idealize.ShloMosaic.Lib.Pointwise
public import Idealize.ShloMosaic.Lib.Tactic.CleanTypes

@[expose] public section

noncomputable section

namespace Cert.Modal

open Cert.KernelIdeal Cert.KernelIdeal.Gen Idealize.ShloMosaic Idealize.ShloMosaic.TcCoe Idealize.SL.Sem

variable (q : ℕ → Fin 64 → ℝ)

/-! The arrays of the stages: a block of rows, the tables, what each stage leaves. -/

abbrev A64 : FVec Ideal S128x64 .f32 := fun i => ((q (i 0).val ⟨(i 1).val, (i 1).isLt⟩ : ℝ) : EReal)
abbrev FQ : FVec Ideal S64x1024 .bf16 := fun i => ((fq (i 0).val (i 1).val : ℝ) : EReal)
abbrev KC : FVec Ideal S512x512 .bf16 := fun i => ((kc (i 0).val (i 1).val : ℝ) : EReal)
abbrev GF : FVec Ideal S256x64 .bf16 := fun i => ((gf (i 0).val (i 1).val : ℝ) : EReal)
def ST : FVec Ideal S128x1024 .f32 := fun i => ((st (q (i 0).val) (i 1).val : ℝ) : EReal)
def X1 : FVec Ideal S128x512 .f32 := fun i => ((x1 (q (i 0).val) (i 1).val : ℝ) : EReal)
def HH : FVec Ideal S128x512 .f32 := fun i => ((hh (q (i 0).val) (i 1).val : ℝ) : EReal)
def OS : FVec Ideal S128x256 .f32 := fun i => ((os (q (i 0).val) (i 1).val : ℝ) : EReal)

theorem ST_at (b : Fin 128) (j : Fin 1024) : ST q (ix2 b j) = ((st (q b) j : ℝ) : EReal) := rfl
theorem HH_at (b : Fin 128) (c : Fin 512) : HH q (ix2 b c) = ((hh (q b) c : ℝ) : EReal) := rfl

/-- The first product with a table. -/
theorem stage1 : matmul dot_S128x64_S64x1024_S128x1024_1_0_0_1_n_n none (truncf .bf16 (A64 q) bitsLt_bf16_f32)
    (shapeCast S64x1024 FQ shapeCasts_S64x1024_S64x1024) (constant S128x1024 .f32 0x00000000#32) = ST q := by
  funext i; idx_vars i
  pointwise
  show ∑ x : Fin 64, ((q i0 x : ℝ) : EReal) * ((fq x i1 : ℝ) : EReal) = ((st (q i0) i1 : ℝ) : EReal)
  simp only [← EReal.coe_mul]
  exact sum_real _

/-- The two products of transforms, from the first stage. -/
theorem stage2 : concatenate S128x512 1
    [⟨S128x128, subf (mulf (extractStridedSlice S128x128 ![0, 0] (ST q) slices_S128x1024_o0_0_S128x128)
        (extractStridedSlice S128x128 ![0, 256] (ST q) slices_S128x1024_o0_256_S128x128))
      (mulf (extractStridedSlice S128x128 ![0, 128] (ST q) slices_S128x1024_o0_128_S128x128)
        (extractStridedSlice S128x128 ![0, 384] (ST q) slices_S128x1024_o0_384_S128x128))⟩,
     ⟨S128x128, addf (mulf (extractStridedSlice S128x128 ![0, 0] (ST q) slices_S128x1024_o0_0_S128x128)
        (extractStridedSlice S128x128 ![0, 384] (ST q) slices_S128x1024_o0_384_S128x128))
      (mulf (extractStridedSlice S128x128 ![0, 128] (ST q) slices_S128x1024_o0_128_S128x128)
        (extractStridedSlice S128x128 ![0, 256] (ST q) slices_S128x1024_o0_256_S128x128))⟩,
     ⟨S128x128, addf (mulf (extractStridedSlice S128x128 ![0, 0] (ST q) slices_S128x1024_o0_0_S128x128)
        (extractStridedSlice S128x128 ![0, 256] (ST q) slices_S128x1024_o0_256_S128x128))
      (mulf (extractStridedSlice S128x128 ![0, 128] (ST q) slices_S128x1024_o0_128_S128x128)
        (extractStridedSlice S128x128 ![0, 384] (ST q) slices_S128x1024_o0_384_S128x128))⟩,
     ⟨S128x128, subf (mulf (extractStridedSlice S128x128 ![0, 0] (ST q) slices_S128x1024_o0_0_S128x128)
        (extractStridedSlice S128x128 ![0, 384] (ST q) slices_S128x1024_o0_384_S128x128))
      (mulf (extractStridedSlice S128x128 ![0, 128] (ST q) slices_S128x1024_o0_128_S128x128)
        (extractStridedSlice S128x128 ![0, 256] (ST q) slices_S128x1024_o0_256_S128x128))⟩]
    concatenates_S128x128_S128x128_S128x128_S128x128_S128x512_d1 = X1 q := by
  funext i; idx_vars i
  pointwise
  simp only [ST_at]
  show _ = ((x1 (q i0) i1 : ℝ) : EReal)
  unfold x1
  by_cases h1 : (i1 : ℕ) < 128
  · rw [dif_pos h1, if_pos h1, EReal.coe_sub, EReal.coe_mul, EReal.coe_mul]
  · rw [dif_neg h1, if_neg h1]
    by_cases h2 : (i1 : ℕ) < 256
    · rw [dif_pos (show (i1 : ℕ) - 128 < 128 by omega), if_pos h2, EReal.coe_add, EReal.coe_mul, EReal.coe_mul]
    · have e : (i1 : ℕ) - 128 - 128 = i1 - 256 := by omega
      rw [dif_neg (show ¬ (i1 : ℕ) - 128 < 128 by omega), if_neg h2]
      by_cases h3 : (i1 : ℕ) < 384
      · rw [dif_pos (show (i1 : ℕ) - 128 - 128 < 128 by omega), if_pos h3, EReal.coe_add, EReal.coe_mul, EReal.coe_mul]
        simp only [e]
      · have e' : (i1 : ℕ) - 128 - 128 - 128 = i1 - 384 := by omega
        rw [dif_neg (show ¬ (i1 : ℕ) - 128 - 128 < 128 by omega), if_neg h3, EReal.coe_sub, EReal.coe_mul, EReal.coe_mul]
        simp only [e']

/-- The second product with a table. -/
theorem stage3 : matmul dot_S128x512_S512x512_S128x512_1_0_0_1_n_n none (truncf .bf16 (X1 q) bitsLt_bf16_f32)
    (shapeCast S512x512 KC shapeCasts_S512x512_S512x512) (constant S128x512 .f32 0x00000000#32) = HH q := by
  funext i; idx_vars i
  pointwise
  show ∑ x : Fin 512, ((x1 (q i0) x : ℝ) : EReal) * ((kc x i1 : ℝ) : EReal) = ((hh (q i0) i1 : ℝ) : EReal)
  simp only [← EReal.coe_mul]
  exact sum_real _

/-- The products of the last stage, summed. -/
theorem stage4 : concatenate S128x256 1
    [⟨S128x128, subf (addf (subf (mulf (extractStridedSlice S128x128 ![0, 768] (ST q) slices_S128x1024_o0_768_S128x128)
        (extractStridedSlice S128x128 ![0, 0] (HH q) slices_S128x512_o0_0_S128x128))
      (mulf (extractStridedSlice S128x128 ![0, 896] (ST q) slices_S128x1024_o0_896_S128x128)
        (extractStridedSlice S128x128 ![0, 128] (HH q) slices_S128x512_o0_128_S128x128)))
      (mulf (extractStridedSlice S128x128 ![0, 512] (ST q) slices_S128x1024_o0_512_S128x128)
        (extractStridedSlice S128x128 ![0, 256] (HH q) slices_S128x512_o0_256_S128x128)))
      (mulf (extractStridedSlice S128x128 ![0, 640] (ST q) slices_S128x1024_o0_640_S128x128)
        (extractStridedSlice S128x128 ![0, 384] (HH q) slices_S128x512_o0_384_S128x128))⟩,
     ⟨S128x128, addf (addf (addf (mulf (extractStridedSlice S128x128 ![0, 768] (ST q) slices_S128x1024_o0_768_S128x128)
        (extractStridedSlice S128x128 ![0, 128] (HH q) slices_S128x512_o0_128_S128x128))
      (mulf (extractStridedSlice S128x128 ![0, 896] (ST q) slices_S128x1024_o0_896_S128x128)
        (extractStridedSlice S128x128 ![0, 0] (HH q) slices_S128x512_o0_0_S128x128)))
      (mulf (extractStridedSlice S128x128 ![0, 512] (ST q) slices_S128x1024_o0_512_S128x128)
        (extractStridedSlice S128x128 ![0, 384] (HH q) slices_S128x512_o0_384_S128x128)))
      (mulf (extractStridedSlice S128x128 ![0, 640] (ST q) slices_S128x1024_o0_640_S128x128)
        (extractStridedSlice S128x128 ![0, 256] (HH q) slices_S128x512_o0_256_S128x128))⟩]
    concatenates_S128x128_S128x128_S128x256_d1 = OS q := by
  funext i; idx_vars i
  pointwise
  simp only [ST_at, HH_at]
  show _ = ((os (q i0) i1 : ℝ) : EReal)
  unfold os
  by_cases h1 : (i1 : ℕ) < 128
  · rw [dif_pos h1, if_pos h1]
    simp only [EReal.coe_sub, EReal.coe_add, EReal.coe_mul]
  · rw [dif_neg h1, if_neg h1]
    simp only [EReal.coe_add, EReal.coe_mul]

/-- The last product with a table. -/
theorem stage5 : matmul dot_S128x256_S256x64_S128x64_1_0_0_1_n_n none (truncf .bf16 (OS q) bitsLt_bf16_f32)
    (shapeCast S256x64 GF shapeCasts_S256x64_S256x64) (constant S128x64 .f32 0x00000000#32)
    = fun i => ((out (q (i 0).val) (i 1).val : ℝ) : EReal) := by
  funext i; idx_vars i
  pointwise
  show ∑ x : Fin 256, ((os (q i0) x : ℝ) : EReal) * ((gf x i1 : ℝ) : EReal) = ((out (q i0) i1 : ℝ) : EReal)
  simp only [← EReal.coe_mul]
  exact sum_real _

/-- The kernel body: of every row of the block, its `out`. -/
theorem body_at : k0_pay1 (F := Ideal) (A64 q) FQ KC GF = fun i => ((out (q (i 0).val) (i 1).val : ℝ) : EReal) := by
  unfold k0_pay1
  dsimp only
  rw [stage1, stage2, stage3, stage4, stage5]

end Cert.Modal

end
-- ==== Proof.Tables.lean ====
/- THE TABLES OF THE KERNEL as the host program leaves them at the launch. Every entry is a real number: that of `fq`, of `kc` and of `gf`
   (`table_fq`, `table_kc`, `table_gf`). The theorems before them read single host values, each named after its
   buffer, at the places of the host program that use them. -/
module

public import proofs.«01_k».proof.Proof.Gen.KernelIdeal.Value
public import proofs.«01_k».proof.Proof.Scalars
public import Idealize.ShloMosaic.Lib.StableHlo.RunRead
public import Idealize.ShloMosaic.Lib.StableHlo.ReadAt
public import Idealize.ShloMosaic.Lib.Pointwise

@[expose] public section

noncomputable section

namespace Cert.Modal

open Cert.KernelIdeal Cert.KernelIdeal.Gen Idealize.ShloMosaic Idealize.ShloMosaic.TcCoe Idealize.SL.Sem

variable (m : (ℓ : Loc nD τ sig) → Buf (Elt Ideal) ℓ)

set_option maxRecDepth 65536

/-- The transform of the modes. -/
theorem v17a (c : Dev nD) (g : Fin 64) (y : Fin 256) :
    StableHlo.upto [hostOps0, hostOps0_1, hostOps0_2, hostOps0_3, hostOps0_4, hostOps0_5, hostOps0_6].flatten (fun b => m (c, b)) 252
      (no_index (Proc.devRef .tc main_v17)) (ix2 g y) = ((f1 g y : ℝ) : EReal) := by
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  unfold f1
  split
  · rfl
  · rfl

theorem v17b (c : Dev nD) (g : Fin 64) (y : Fin 256) :
    StableHlo.upto [hostOps0, hostOps0_1, hostOps0_2, hostOps0_3, hostOps0_4, hostOps0_5, hostOps0_6].flatten (fun b => m (c, b)) 256
      (no_index (Proc.devRef .tc main_v17)) (ix2 g y) = ((f1 g y : ℝ) : EReal) := by
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  unfold f1
  split
  · rfl
  · rfl

/-- The transform of one of the two sequences. -/
theorem v122a (c : Dev nD) (g : Fin 128) (y : Fin 256) :
    StableHlo.upto [hostOps0, hostOps0_1, hostOps0_2, hostOps0_3, hostOps0_4, hostOps0_5, hostOps0_6].flatten (fun b => m (c, b)) 166
      (no_index (Proc.devRef .tc main_v122)) (ix2 g y) = ((t2 g y : ℝ) : EReal) := by
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  unfold t2
  split
  · rfl
  · rfl

theorem v122b (c : Dev nD) (g : Fin 128) (y : Fin 256) :
    StableHlo.upto [hostOps0, hostOps0_1, hostOps0_2, hostOps0_3, hostOps0_4, hostOps0_5, hostOps0_6].flatten (fun b => m (c, b)) 167
      (no_index (Proc.devRef .tc main_v122)) (ix2 g y) = ((t2 g y : ℝ) : EReal) := by
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  unfold t2
  split
  · rfl
  · rfl

/-- The last inverse transform, not yet scaled. -/
theorem v183 (c : Dev nD) (g : Fin 256) (y : Fin 64) :
    StableHlo.upto [hostOps0, hostOps0_1, hostOps0_2, hostOps0_3, hostOps0_4, hostOps0_5, hostOps0_6].flatten (fun b => m (c, b)) 239
      (no_index (Proc.devRef .tc main_v183)) (ix2 g y) = ((if (g : ℕ) < 128 then wt g * Real.cos (g * (y + 63 : ℕ) * step)
      else -wt (g - 128) * Real.sin ((g - 128 : ℕ) * (y + 63 : ℕ) * step) : ℝ) : EReal) := by
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  split
  · rfl
  · rfl

/-- The transforms of the modes and of the modes in reverse order. -/
theorem v157 (c : Dev nD) (g : Fin 64) (y : Fin 512) :
    StableHlo.upto [hostOps0, hostOps0_1, hostOps0_2, hostOps0_3, hostOps0_4, hostOps0_5, hostOps0_6].flatten (fun b => m (c, b)) 259
      (no_index (Proc.devRef .tc main_v157)) (ix2 g y) = ((f2e g y : ℝ) : EReal) := by
  after_reads_at
  simp only [StableHlo.unary_result', StableHlo.binary_result']
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  unfold f2e u2r u2i phr phi
  by_cases h1 : (y : ℕ) < 128
  · simp only [dif_pos h1, if_pos h1]
  · by_cases h2 : (y : ℕ) < 256
    · simp only [dif_neg h1, if_neg h1, dif_pos (show (y : ℕ) - 128 < 128 by omega), if_pos h2]
    · by_cases h3 : (y : ℕ) < 384
      · simp only [dif_neg h1, if_neg h1, dif_neg (show ¬ (y : ℕ) - 128 < 128 by omega), if_neg h2,
          dif_pos (show (y : ℕ) - 128 - 128 < 128 by omega), if_pos h3, show (y : ℕ) - 128 - 128 = y - 256 by omega,
          dif_pos (show (y : ℕ) - 256 < 128 by omega)]
      · simp only [dif_neg h1, if_neg h1, dif_neg (show ¬ (y : ℕ) - 128 < 128 by omega), if_neg h2,
          dif_neg (show ¬ (y : ℕ) - 128 - 128 < 128 by omega), if_neg h3, show (y : ℕ) - 128 - 128 - 128 = y - 384 by omega]

/-- A row of the second inverse transform, its cosines. -/
theorem v58 (c : Dev nD) (g : Fin 128) (y : Fin 128) :
    StableHlo.upto [hostOps0, hostOps0_1, hostOps0_2, hostOps0_3, hostOps0_4, hostOps0_5, hostOps0_6].flatten (fun b => m (c, b)) 92
      (no_index (Proc.devRef .tc main_v58)) (ix2 g y) = ((wt g * Real.cos (g * wrap y * step) : ℝ) : EReal) := by
  after_reads_at
  simp only [id, constantI_apply]
  rw [wrap_word]
  have hw : wrap y < 2 ^ 31 := by unfold wrap; split <;> omega
  simp (disch := omega) only [host_wt, host_step]
  simp (disch := first | exact hw | omega) only [word_nat, Ideal.cos_coe, Ideal.sin_coe, ← EReal.coe_mul, ← EReal.coe_neg]

/-- A row of the second inverse transform, its sines. -/
theorem v64 (c : Dev nD) (g : Fin 128) (y : Fin 128) :
    StableHlo.upto [hostOps0, hostOps0_1, hostOps0_2, hostOps0_3, hostOps0_4, hostOps0_5, hostOps0_6].flatten (fun b => m (c, b)) 98
      (no_index (Proc.devRef .tc main_v64)) (ix2 g y) = ((-wt g * Real.sin (g * wrap y * step) : ℝ) : EReal) := by
  after_reads_at
  simp only [id, constantI_apply]
  rw [wrap_word]
  have hw : wrap y < 2 ^ 31 := by unfold wrap; split <;> omega
  simp (disch := omega) only [host_wt, host_step]
  simp (disch := first | exact hw | omega) only [word_nat, Ideal.cos_coe, Ideal.sin_coe, ← EReal.coe_mul, ← EReal.coe_neg]

/-- The inverse transforms of the two products. -/
theorem v66 (c : Dev nD) (g : Fin 512) (y : Fin 256) :
    StableHlo.upto [hostOps0, hostOps0_1, hostOps0_2, hostOps0_3, hostOps0_4, hostOps0_5, hostOps0_6].flatten (fun b => m (c, b)) 142
      (no_index (Proc.devRef .tc main_v66)) (ix2 g y) = ((p1 g y : ℝ) : EReal) := by
  after_reads_at
  simp only [StableHlo.unary_result', StableHlo.binary_result']
  pointwise
  simp only [v58, v64]
  after_reads_at
  simp (disch := omega) only [host_wt, host_step]
  simp (disch := omega) only [word_add, word_nat, bits_neg_63, Ideal.cos_coe, Ideal.sin_coe, ← EReal.coe_mul, ← EReal.coe_neg,
    ← EReal.coe_add, ← EReal.coe_sub, ← EReal.coe_one]
  unfold p1
  by_cases h1 : (g : ℕ) < 128
  · simp only [dif_pos h1, if_pos h1]
    split <;> rfl
  · by_cases h2 : (g : ℕ) < 256
    · simp only [dif_neg h1, if_neg h1, dif_pos (show (g : ℕ) - 128 < 128 by omega), if_pos h2]
      split <;> rfl
    · by_cases h3 : (g : ℕ) < 384
      · simp only [dif_neg h1, if_neg h1, dif_neg (show ¬ (g : ℕ) - 128 < 128 by omega), if_neg h2,
          dif_pos (show (g : ℕ) - 128 - 128 < 128 by omega), if_pos h3, show (g : ℕ) - 128 - 128 = g - 256 by omega,
          dif_pos (show (g : ℕ) - 256 < 128 by omega)]
        split <;> rfl
      · simp only [dif_neg h1, if_neg h1, dif_neg (show ¬ (g : ℕ) - 128 < 128 by omega), if_neg h2,
          dif_neg (show ¬ (g : ℕ) - 128 - 128 < 128 by omega), if_neg h3, show (g : ℕ) - 128 - 128 - 128 = g - 384 by omega]
        split <;> rfl

/-- The first table. -/
theorem v207 (c : Dev nD) (g : Fin 64) (y : Fin 1024) :
    StableHlo.upto [hostOps0, hostOps0_1, hostOps0_2, hostOps0_3, hostOps0_4, hostOps0_5, hostOps0_6].flatten (fun b => m (c, b)) 261
      (no_index (Proc.devRef .tc main_v207)) (ix2 g y) = ((fq g y : ℝ) : EReal) := by
  after_reads_at
  simp only [StableHlo.unary_result', StableHlo.binary_result', mulf_apply, v17a, v17b, v157]
  after_reads_at
  simp (disch := omega) only [word_add, word_nat, bits_neg_63, Ideal.cos_coe, Ideal.sin_coe, ← EReal.coe_mul, ← EReal.coe_neg,
    ← EReal.coe_add, ← EReal.coe_sub, ← EReal.coe_one]
  unfold fq
  by_cases h1 : (y : ℕ) < 256
  · simp only [dif_pos h1, if_pos h1]
  · by_cases h2 : (y : ℕ) < 512
    · simp only [dif_neg h1, if_neg h1, dif_pos (show (y : ℕ) - 256 < 256 by omega), if_pos h2]
    · simp only [dif_neg h1, if_neg h1, dif_neg (show ¬ (y : ℕ) - 256 < 256 by omega), if_neg h2, show (y : ℕ) - 256 - 256 = y - 512 by omega]

/-- The assembly of the convolutions. -/
theorem v101 (c : Dev nD) :
    StableHlo.upto [hostOps0, hostOps0_1, hostOps0_2, hostOps0_3, hostOps0_4, hostOps0_5, hostOps0_6].flatten (fun b => m (c, b)) 143
      (no_index (Proc.devRef .tc main_v101)) = fun i => ((asm (i 0).val (i 1).val : ℝ) : EReal) := by
  funext i; idx_vars i
  after_reads_at
  after_reads_at
  simp (disch := omega) only [word_add, word_eq, word_lt, word_and, ← Bool.decide_and, word_one, ← EReal.coe_sub]
  unfold asm
  by_cases h1 : (i0 : ℕ) < 128 <;> by_cases h2 : (i1 : ℕ) < 128 <;> simp only [h1, h2, dif_pos, dif_neg, if_pos, if_neg, not_false_eq_true,
    ↓reduceDIte, ↓reduceIte]

/-- The transforms of the two sequences. -/
theorem v126 (c : Dev nD) :
    StableHlo.upto [hostOps0, hostOps0_1, hostOps0_2, hostOps0_3, hostOps0_4, hostOps0_5, hostOps0_6].flatten (fun b => m (c, b)) 241
      (no_index (Proc.devRef .tc main_v126)) = fun i => ((k2 (i 0).val (i 1).val : ℝ) : EReal) := by
  funext i; idx_vars i
  after_reads_at
  have e1 (a : Fin 128) (b : Fin 256) : StableHlo.upto [hostOps0, hostOps0_1, hostOps0_2, hostOps0_3, hostOps0_4, hostOps0_5, hostOps0_6].flatten (fun b => m (c, b)) 166
      (no_index (Proc.devRef .tc main_v123)) (ix2 a b) = ((0 : ℝ) : EReal) := by after_reads_at; rfl
  have e2 (a : Fin 128) (b : Fin 256) : StableHlo.upto [hostOps0, hostOps0_1, hostOps0_2, hostOps0_3, hostOps0_4, hostOps0_5, hostOps0_6].flatten (fun b => m (c, b)) 167
      (no_index (Proc.devRef .tc main_v123)) (ix2 a b) = ((0 : ℝ) : EReal) := by after_reads_at; rfl
  simp only [e1, e2, v122a, v122b]
  unfold k2
  by_cases h1 : (i0 : ℕ) < 128 <;> by_cases h2 : (i1 : ℕ) < 256 <;> simp only [h1, h2, dif_pos, dif_neg, if_pos, if_neg, not_false_eq_true,
    ↓reduceDIte, ↓reduceIte]

theorem v66f (c : Dev nD) :
    StableHlo.upto [hostOps0, hostOps0_1, hostOps0_2, hostOps0_3, hostOps0_4, hostOps0_5, hostOps0_6].flatten (fun b => m (c, b)) 142
      (no_index (Proc.devRef .tc main_v66)) = fun i => ((p1 (i 0).val (i 1).val : ℝ) : EReal) := by
  funext i; idx_vars i; exact v66 ..
/-- The product of the inverse transforms and the assembly. -/
theorem v107 (c : Dev nD) :
    StableHlo.upto [hostOps0, hostOps0_1, hostOps0_2, hostOps0_3, hostOps0_4, hostOps0_5, hostOps0_6].flatten (fun b => m (c, b)) 240
      (no_index (Proc.devRef .tc main_v107)) = fun i => ((k1 (i 0).val (i 1).val : ℝ) : EReal) := by
  funext i; idx_vars i
  after_reads_simp [v66f, v101]
  clean_types
  pointwise
  simp only [← EReal.coe_mul]
  exact sum_real _

theorem v183f (c : Dev nD) :
    StableHlo.upto [hostOps0, hostOps0_1, hostOps0_2, hostOps0_3, hostOps0_4, hostOps0_5, hostOps0_6].flatten (fun b => m (c, b)) 239
      (no_index (Proc.devRef .tc main_v183)) = fun i => (((if (i 0).val < 128 then wt (i 0).val * Real.cos ((i 0).val * ((i 1).val + 63 : ℕ) * step)
      else -wt ((i 0).val - 128) * Real.sin (((i 0).val - 128 : ℕ) * ((i 1).val + 63 : ℕ) * step)) : ℝ) : EReal) := by
  funext i; idx_vars i; exact v183 ..

theorem v207f (c : Dev nD) :
    StableHlo.upto [hostOps0, hostOps0_1, hostOps0_2, hostOps0_3, hostOps0_4, hostOps0_5, hostOps0_6].flatten (fun b => m (c, b)) 261
      (no_index (Proc.devRef .tc main_v207)) = fun i => ((fq (i 0).val (i 1).val : ℝ) : EReal) := by
  funext i; idx_vars i; exact v207 ..

/-- The first table at the launch. -/
theorem table_fq (c : Dev nD) (a : Fin 64) (j : Fin 1024) : V m c main_v208 (ix2 a j) = ((fq a j : ℝ) : EReal) := by
  unfold V
  after_reads_simp [v207f]
  rfl

/-- The second table at the launch. -/
theorem table_kc (c : Dev nD) (r k : Fin 512) : V m c main_v209 (ix2 r k) = ((kc r k : ℝ) : EReal) := by
  unfold V
  after_reads_simp [v107, v126]
  clean_types
  pointwise
  simp only [← EReal.coe_mul]
  exact sum_real _

/-- The third table at the launch. -/
theorem table_gf (c : Dev nD) (g : Fin 256) (k : Fin 64) : V m c main_v210 (ix2 g k) = ((gf g k : ℝ) : EReal) := by
  unfold V
  after_reads_simp [v183f]
  clean_types
  pointwise
  rw [angle_pi, bits_neg_three_halves]
  simp only [← EReal.coe_mul]
  rfl

end Cert.Modal

end
-- ==== Proof.KernelArray.lean ====
/- THE KERNEL'S RESULT ARRAY. The one grid point's blocks are the whole arrays (`idx_zero0` to `cut4_eq`) and its store fills the whole
   block (`out_whole`), so the array after the run is the body's value on the argument and the tables (`final_eq`), which
   Proof/Tables.lean and Proof/KernelValue.lean give: at row `b` and mode `k`, `out` of row `b` (`final_at`). -/
module

public import proofs.«01_k».proof.Proof.KernelValue
public import proofs.«01_k».proof.Proof.Tables

@[expose] public section

noncomputable section

namespace Cert.Modal

open Cert.KernelIdeal Cert.KernelIdeal.Gen Idealize.ShloMosaic Idealize.ShloMosaic.TcCoe Idealize.SL.Sem

theorem origin : (![0, 0] : Fin 2 → Nat) = fun _ => 0 := funext fun a => by fin_cases a <;> rfl

/-- The one store fills the output's block, and every load takes the whole of its block. -/
theorem out_whole (x0 : Vec Ideal S128x64 .f32) (x1 : Vec Ideal S64x1024 .bf16) (x2 : Vec Ideal S512x512 .bf16) (x3 : Vec Ideal S256x64 .bf16) :
    out0_4 x0 x1 x2 x3 = k0_pay1 x0 x1 x2 x3 := by
  unfold out0_4
  rw [View.canon_unit_zero origin, View.ld_unit_zero origin, View.ld_unit_zero origin, View.ld_unit_zero origin, View.ld_unit_zero origin]

variable (m : (ℓ : Loc nD τ sig) → Buf (Elt Ideal) ℓ)

/-! ## Each window's block at the grid point is its whole array -/

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S128x64.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 64 + 1 * (j 1).val = (j 1).val; omega

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S64x1024.Idx) : ((cfg0.win 1).blk t).view.emb j = j := by
  obtain ⟨e0, e1⟩ := idx_zero1 t
  funext a; apply Fin.ext
  match a with
  | ⟨0, _⟩ => show win0_1.index t (0 : Fin 2) * 64 + 1 * (j 0).val = (j 0).val; omega
  | ⟨1, _⟩ => show win0_1.index t (1 : Fin 2) * 1024 + 1 * (j 1).val = (j 1).val; omega

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S512x512.Idx) : ((cfg0.win 2).blk t).view.emb j = j := by
  obtain ⟨e0, e1⟩ := idx_zero2 t
  funext a; apply Fin.ext
  match a with
  | ⟨0, _⟩ => show win0_2.index t (0 : Fin 2) * 512 + 1 * (j 0).val = (j 0).val; omega
  | ⟨1, _⟩ => show win0_2.index t (1 : Fin 2) * 512 + 1 * (j 1).val = (j 1).val; omega

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S256x64.Idx) : ((cfg0.win 3).blk t).view.emb j = j := by
  obtain ⟨e0, e1⟩ := idx_zero3 t
  funext a; apply Fin.ext
  match a with
  | ⟨0, _⟩ => show win0_3.index t (0 : Fin 2) * 256 + 1 * (j 0).val = (j 0).val; omega
  | ⟨1, _⟩ => show win0_3.index t (1 : Fin 2) * 64 + 1 * (j 1).val = (j 1).val; omega

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S128x64.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 64 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_v208 := by
  funext j; show V m c main_v208 (((cfg0.win 1).blk t).view.emb j) = V m c main_v208 j; rw [emb1]

theorem iblk2_eq (c : Dev nD) (t : Fin cfg0.N) : iblk m c 2 t = V m c main_v209 := by
  funext j; show V m c main_v209 (((cfg0.win 2).blk t).view.emb j) = V m c main_v209 j; rw [emb2]

theorem iblk3_eq (c : Dev nD) (t : Fin cfg0.N) : iblk m c 3 t = V m c main_v210 := by
  funext j; show V m c main_v210 (((cfg0.win 3).blk t).view.emb j) = V m c main_v210 j; rw [emb3]

theorem cut4_eq (t : Fin cfg0.N) (X : Vec Ideal S128x64 .f32) :
    (cfg0.win 4).cut (grid0.coords t) X = ((cfg0.win 4).blk t).view.read (Elt Ideal) X := by
  funext j
  show X j = X (((cfg0.win 4).blk t).view.emb j)
  rw [emb4]

/-! ## The array -/

/-- What the grid point writes back: the body's value on the argument and the tables. -/
theorem flushed_eq (c : Dev nD) (t : Fin cfg0.N) : (dats m 0 c).flushed 4 t
    = ((cfg0.win 4).blk t).view.read (Elt Ideal) (k0_pay1 (V m c main_arg0) (V m c main_v208) (V m c main_v209) (V m c main_v210)) := by
  rw [Value.flushed4, out_whole, iblk0_eq, iblk1_eq, iblk2_eq, iblk3_eq]
  exact cut4_eq t _

theorem covered (i : S128x64.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final_eq (c : Dev nD) : (dats m 0 c).arrAt 4 cfg0.N
    = k0_pay1 (m (c.tc.loc main_arg0)) (V m c main_v208) (V m c main_v209) (V m c main_v210) :=
  ((dats m 0 c).arrAt_eq_of_cover 4 (k0_pay1 (V m c main_arg0) (V m c main_v208) (V m c main_v209) (V m c main_v210))
    (fun t _ => flushed_eq m c t) covered).trans (by rw [V_main_arg0])

/-- The tables, as arrays. -/
theorem tables (c : Dev nD) : V m c main_v208 = FQ ∧ V m c main_v209 = KC ∧ V m c main_v210 = GF :=
  ⟨funext fun i => by idx_vars i; exact table_fq m c i0 i1, funext fun i => by idx_vars i; exact table_kc m c i0 i1,
    funext fun i => by idx_vars i; exact table_gf m c i0 i1⟩

/-- The value of the kernel. -/
theorem final_at (c : Dev nD) (q : ℕ → Fin 64 → ℝ) (hq : m (c.tc.loc main_arg0) = A64 q) (b : Fin 128) (k : Fin 64) :
    (dats m 0 c).arrAt 4 cfg0.N (ix2 b k) = ((out (q b) k : ℝ) : EReal) := by
  obtain ⟨h1, h2, h3⟩ := tables m c
  rw [final_eq, h1, h2, h3, hq, body_at]
  rfl

end Cert.Modal

end
-- ==== Proof.Relabel.lean ====
/- THE REFERENCE'S SUM OVER THE REAL NUMBERS: the words of its tensor as integers, its long contraction as a sum over three modes, and the
   three cyclic terms of its tensor as one (`contraction`). -/
module

public import proofs.«01_k».proof.Proof.Scalars
public import Mathlib.Logic.Equiv.Fin.Basic
public import Mathlib.Tactic.NormNum
public import Mathlib.Tactic.Linarith

@[expose] public section

noncomputable section

namespace Cert.Modal

open Idealize.ShloMosaic Real Finset

/-! ## Words that hold integers -/

theorem int_nat (n : ℕ) : BitVec.ofNat 32 n = BitVec.ofInt 32 n := (BitVec.ofInt_natCast 32 n).symm

theorem int_add (a b : ℤ) : IntOp.addi (BitVec.ofInt 32 a) (BitVec.ofInt 32 b) = BitVec.ofInt 32 (a + b) := (BitVec.ofInt_add a b).symm

theorem int_mul (a b : ℤ) : IntOp.muli (BitVec.ofInt 32 a) (BitVec.ofInt 32 b) = BitVec.ofInt 32 (a * b) := (BitVec.ofInt_mul a b).symm

theorem int_neg (a : ℤ) : -BitVec.ofInt 32 a = BitVec.ofInt 32 (-a) := BitVec.ofInt_neg.symm

theorem int_sub (a b : ℤ) : IntOp.subi (BitVec.ofInt 32 a) (BitVec.ofInt 32 b) = BitVec.ofInt 32 (a - b) := by
  rw [sub_eq_add_neg, ← int_add, ← int_neg]
  exact BitVec.sub_eq_add_neg ..

/-- A word that holds a small integer, read signed. -/
theorem int_read (a : ℤ) (h₁ : -2 ^ 31 ≤ a) (h₂ : a < 2 ^ 31) : (BitVec.ofInt 32 a).toInt = a := by
  rw [BitVec.toInt_ofInt, Int.bmod_def]; omega

theorem int_eq (a b : ℤ) (ha₁ : -2 ^ 31 ≤ a) (ha₂ : a < 2 ^ 31) (hb₁ : -2 ^ 31 ≤ b) (hb₂ : b < 2 ^ 31) :
    BitVec.setWidth 32 (IntOp.cmpi .eq (BitVec.ofInt 32 a) (BitVec.ofInt 32 b)) = BitVec.ofInt 32 (if a = b then 1 else 0) := by
  show BitVec.setWidth 32 (BitVec.ofBool (BitVec.ofInt 32 a == BitVec.ofInt 32 b)) = _
  by_cases h : a = b
  · rw [h, if_pos rfl, beq_self_eq_true]; rfl
  · have : (BitVec.ofInt 32 a == BitVec.ofInt 32 b) = false := by
      rw [beq_eq_false_iff_ne]
      intro e
      apply h
      rw [← int_read a ha₁ ha₂, e, int_read b hb₁ hb₂]
    rw [this, if_neg h]; rfl

/-- The interaction numbers are small. -/
theorem inter_small (m i j k : Fin 64) : -2 ^ 26 ≤ inter m i j k ∧ inter m i j k ≤ 2 ^ 26 := by
  have hm (a b t : ℤ) : -2 ≤ meet a b t ∧ meet a b t ≤ 2 := by
    unfold meet; constructor <;> (split_ifs <;> omega)
  have h1 := hm ((k : ℕ) + 1) ((i : ℕ) + 1) ((m : ℕ) + 1 + ((j : ℕ) + 1))
  have h2 := hm ((k : ℕ) + 1) ((i : ℕ) + 1) ((m : ℕ) + 1 - ((j : ℕ) + 1))
  unfold inter
  generalize meet _ _ _ = s at *
  generalize meet _ _ _ = t at *
  have hp (a b : Fin 64) : 0 ≤ ((a : ℕ) + 1 : ℤ) * ((b : ℕ) + 1) ∧ ((a : ℕ) + 1 : ℤ) * ((b : ℕ) + 1) ≤ 2 ^ 12 := by
    constructor
    · positivity
    · have : ((a : ℕ) + 1 : ℤ) ≤ 64 := by omega
      have : ((b : ℕ) + 1 : ℤ) ≤ 64 := by omega
      nlinarith
  have p1 := hp i j
  have p2 := hp k k
  generalize ((i : ℕ) + 1 : ℤ) * ((j : ℕ) + 1) = x at *
  generalize ((k : ℕ) + 1 : ℤ) * ((k : ℕ) + 1) = y at *
  have p3 : 0 ≤ x * y := mul_nonneg p1.1 p2.1
  have p4 : x * y ≤ 2 ^ 24 := by nlinarith
  generalize x * y = z at *
  constructor <;> nlinarith

theorem inter_word (m i j k : Fin 64) :
    FloatOps.sitofp (F := Ideal) .f32 (IntOp.addi (IntOp.addi (BitVec.ofInt 32 (inter m i j k)) (BitVec.ofInt 32 (inter m j k i))) (BitVec.ofInt 32 (inter m k i j)))
      = (((inter m i j k : ℝ) + (inter m j k i : ℝ) + (inter m k i j : ℝ) : ℝ) : EReal) := by
  have h1 := inter_small m i j k
  have h2 := inter_small m j k i
  have h3 := inter_small m k i j
  rw [int_add, int_add]
  show (((BitVec.ofInt 32 (inter m i j k + inter m j k i + inter m k i j)).toInt : ℝ) : EReal) = _
  rw [int_read _ (by omega) (by omega)]
  push_cast; rfl

/-! ## Sums -/

/-- A sum over a number of pairs, by quotient and remainder. -/
theorem sum_pairs (a b : ℕ) (f : ℕ → ℕ → ℝ) : ∑ x : Fin (a * b), f (x / b) (x % b) = ∑ i : Fin a, ∑ j : Fin b, f i j := by
  rw [← Fintype.sum_prod_type', ← finProdFinEquiv.symm.sum_comp]
  rfl

/-- A sum over all places of the reference's contraction is one over three modes. -/
theorem sum_cube (f : ℕ → ℕ → ℕ → ℝ) : ∑ x : Fin 262144, f (x / 4096) (x / 64 % 64) (x % 64)
    = ∑ i : Fin 64, ∑ j : Fin 64, ∑ k : Fin 64, f i j k := by
  have h1 := sum_pairs 4096 64 fun y k => f (y / 64) (y % 64) k
  have h2 := sum_pairs 64 64 fun i j => ∑ k : Fin 64, f i j k
  rw [← h2, ← h1]
  refine sum_congr rfl fun x _ => ?_
  simp only [Nat.div_div_eq_div_mul]

/-- The three cyclic terms contribute alike. -/
theorem contraction (m : ℕ) (q : Fin 64 → ℝ) :
    -∑ i : Fin 64, ∑ j : Fin 64, ∑ k : Fin 64, (0.5 * (π * π * (π * π)) * ((inter m i j k : ℝ) + inter m j k i + inter m k i j)) * (q i * q j * q k)
      = scale * ∑ i : Fin 64, ∑ j : Fin 64, ∑ k : Fin 64, (inter m i j k : ℝ) * (q i * q j * q k) := by
  have r1 : ∑ i : Fin 64, ∑ j : Fin 64, ∑ k : Fin 64, (inter m j k i : ℝ) * (q i * q j * q k)
      = ∑ i : Fin 64, ∑ j : Fin 64, ∑ k : Fin 64, (inter m i j k : ℝ) * (q i * q j * q k) := by
    rw [sum_comm]
    refine sum_congr rfl fun j _ => ?_
    rw [sum_comm]
    refine sum_congr rfl fun k _ => sum_congr rfl fun i _ => ?_
    ring
  have r2 : ∑ i : Fin 64, ∑ j : Fin 64, ∑ k : Fin 64, (inter m k i j : ℝ) * (q i * q j * q k)
      = ∑ i : Fin 64, ∑ j : Fin 64, ∑ k : Fin 64, (inter m i j k : ℝ) * (q i * q j * q k) := by
    have h (i : Fin 64) : ∑ j : Fin 64, ∑ k : Fin 64, (inter m k i j : ℝ) * (q i * q j * q k)
        = ∑ k : Fin 64, ∑ j : Fin 64, (inter m k i j : ℝ) * (q i * q j * q k) := sum_comm
    simp only [h]
    rw [sum_comm]
    refine sum_congr rfl fun k _ => sum_congr rfl fun i _ => sum_congr rfl fun j _ => ?_
    ring
  have e (i j k : Fin 64) : (0.5 * (π * π * (π * π)) * ((inter m i j k : ℝ) + inter m j k i + inter m k i j)) * (q i * q j * q k)
      = 0.5 * (π * π * (π * π)) * ((inter m i j k : ℝ) * (q i * q j * q k)) + 0.5 * (π * π * (π * π)) * ((inter m j k i : ℝ) * (q i * q j * q k))
        + 0.5 * (π * π * (π * π)) * ((inter m k i j : ℝ) * (q i * q j * q k)) := by ring
  simp only [e, sum_add_distrib, ← mul_sum, r1, r2, scale]
  ring

end Cert.Modal

end
-- ==== Proof.ReferenceValue.lean ====
/- WHAT THE REFERENCE COMPUTES: at row `b` and mode `k`, for a block with real entries, the contraction of the interaction numbers with
   the row (`reference_at`). The tensor and the triple products are named first, then read at an index. -/
module

public import proofs.«01_k».proof.Proof.Gen.ReferenceIdeal.Run
public import proofs.«01_k».proof.Proof.Relabel
public import Idealize.ShloMosaic.Lib.Pointwise
public import Idealize.ShloMosaic.Lib.Tactic.CleanTypes

@[expose] public section

noncomputable section

namespace Cert.Modal

open Cert.ReferenceIdeal Cert.ReferenceIdeal.Gen Idealize.ShloMosaic Idealize.ShloMosaic.TcCoe Idealize.SL.Sem

/-! ## The integer tensor -/

/-- The modes' numbers, along each of the four dimensions. -/
abbrev num : IVec S64 32 := addi (broadcastInDim S64 ![] bcast_S_S64 (constantI S_ 32 1#32)) (iotaInDim S64 32 0)
abbrev wm : IVec S64x64x64x64 32 := broadcastInDim S64x64x64x64 ![0] bcast_S64_S64x64x64x64_0 num
abbrev wi : IVec S64x64x64x64 32 := broadcastInDim S64x64x64x64 ![1] bcast_S64_S64x64x64x64_1 num
abbrev wj : IVec S64x64x64x64 32 := broadcastInDim S64x64x64x64 ![2] bcast_S64_S64x64x64x64_2 num
abbrev wk : IVec S64x64x64x64 32 := broadcastInDim S64x64x64x64 ![3] bcast_S64_S64x64x64x64_3 num

/-- Where two of them agree, as a word. -/
abbrev same (x y : IVec S64x64x64x64 32) : IVec S64x64x64x64 32 := extui 32 (cmpi .eq x y) natLt_1_32

abbrev words : IVec S64x64x64x64 32 :=
  muli (muli (muli wi wj) (muli wk wk))
    (subi (addi (subi (addi (subi (addi (subi (same (addi wk wi) (addi wm wj)) (same (addi wk wi) (negi (addi wm wj))))
      (same (addi wk wi) (subi wm wj))) (same (addi wk wi) (negi (subi wm wj))))
      (same (subi wk wi) (addi wm wj))) (same (subi wk wi) (negi (addi wm wj))))
      (same (subi wk wi) (subi wm wj))) (same (subi wk wi) (negi (subi wm wj))))

theorem words_at (m i j k : Fin 64) : words (ix4 m i j k) = BitVec.ofInt 32 (inter m i j k) := by
  pointwise
  simp (disch := omega) only [int_nat, int_add, int_mul, int_sub, int_neg, int_eq]
  refine congrArg _ ?_
  unfold inter meet
  simp only [Nat.cast_one, add_comm (1 : ℤ)]
  ring

/-! ## The float tensor, the triple products -/

abbrev half_turns : FVec Ideal S_ .f32 := Host.atan2 (constant S_ .f32 0x00000000#32) (constant S_ .f32 0xBF800000#32)

def coef (B : IVec S64x64x64x64 32) : FVec Ideal S64x64x64x64 .f32 :=
  mulf (broadcastInDim S64x64x64x64 ![] bcast_S_S64x64x64x64
      (mulf (constant S_ .f32 0x3F000000#32) (mulf (mulf half_turns half_turns) (mulf half_turns half_turns))))
    (sitofp .f32 (addi (addi B (transpose S64x64x64x64 [0, 3, 1, 2] B transposes_S64x64x64x64_S64x64x64x64_0_3_1_2))
      (transpose S64x64x64x64 [0, 2, 3, 1] B transposes_S64x64x64x64_S64x64x64x64_0_2_3_1)))

theorem coef_at (m i j k : Fin 64) : coef words (ix4 m i j k)
    = ((0.5 * (Real.pi * Real.pi * (Real.pi * Real.pi)) * ((inter m i j k : ℝ) + inter m j k i + inter m k i j) : ℝ) : EReal) := by
  unfold coef
  generalize hB : words = B
  pointwise
  rw [← hB, words_at, words_at, words_at, inter_word, angle_pi, bits_half]
  simp only [← EReal.coe_mul]

def cube (Q : FVec Ideal S128x64 .f32) : FVec Ideal S64x64x64x128 .f32 :=
  mulf
    (broadcastInDim S64x64x64x128 ![0, 1, 2, 3] bcast_S64x64x1x128_S64x64x64x128_0_1_2_3
      (mulf
        (broadcastInDim S64x64x1x128 ![0, 1, 2, 3] bcast_S64x1x1x128_S64x64x1x128_0_1_2_3
          (broadcastInDim S64x1x1x128 ![0, 3] bcast_S64x128_S64x1x1x128_0_3
            (transpose S64x128 [1, 0] Q transposes_S128x64_S64x128_1_0)))
        (broadcastInDim S64x64x1x128 ![0, 1, 2, 3] bcast_S1x64x1x128_S64x64x1x128_0_1_2_3
          (broadcastInDim S1x64x1x128 ![1, 3] bcast_S64x128_S1x64x1x128_1_3
            (transpose S64x128 [1, 0] Q transposes_S128x64_S64x128_1_0)))))
    (broadcastInDim S64x64x64x128 ![0, 1, 2, 3] bcast_S1x1x64x128_S64x64x64x128_0_1_2_3
      (broadcastInDim S1x1x64x128 ![2, 3] bcast_S64x128_S1x1x64x128_2_3
        (transpose S64x128 [1, 0] Q transposes_S128x64_S64x128_1_0)))

theorem cube_at (Q : FVec Ideal S128x64 .f32) (i j k : Fin 64) (b : Fin 128) :
    cube Q (ix4 i j k b) = Q (ix2 b i) * Q (ix2 b j) * Q (ix2 b k) := by
  unfold cube
  pointwise

/-! ## The result -/

theorem res_eq (m : (ℓ : Loc nD τ sig) → Buf (Elt Ideal) ℓ) (c : Dev nD) : Value.res_out0 (F := Ideal) m c
    = Host.negf (transpose S128x64 [1, 0]
        (Host.dotGeneral (φ₁ := .f32) (φ₂ := .f32) dot_S64x262144_S262144x128_S64x128_1_0_0_1_n_n none
          (shapeCast S64x262144 (coef words) shapeCasts_S64x64x64x64_S64x262144)
          (shapeCast S262144x128 (cube (m (c.tc.loc main_arg0))) shapeCasts_S64x64x64x128_S262144x128))
        transposes_S64x128_S128x64_1_0) := by
  unfold Value.res_out0 Value.res_main_v79
  rfl

/-- The reference's contraction of any tensor with any products. -/
theorem contract_at (X : FVec Ideal S64x64x64x64 .f32) (Y : FVec Ideal S64x64x64x128 .f32) (k : Fin 64) (b : Fin 128) :
    (Host.negf (transpose S128x64 [1, 0]
        (Host.dotGeneral (φ₁ := .f32) (φ₂ := .f32) dot_S64x262144_S262144x128_S64x128_1_0_0_1_n_n none
          (shapeCast S64x262144 X shapeCasts_S64x64x64x64_S64x262144)
          (shapeCast S262144x128 Y shapeCasts_S64x64x64x128_S262144x128))
        transposes_S64x128_S128x64_1_0) : FVec Ideal S128x64 .f32) (ix2 b k)
      = -∑ x : Fin 262144, X (ix4 k ⟨x / 4096, by omega⟩ ⟨x / 64 % 64, by omega⟩ ⟨x % 64, by omega⟩)
          * Y (ix4 ⟨x / 4096, by omega⟩ ⟨x / 64 % 64, by omega⟩ ⟨x % 64, by omega⟩ b) := by
  pointwise

/-- One term of the contraction, over all naturals. -/
def term (q : Fin 64 → ℝ) (k i j l : ℕ) : ℝ :=
  (0.5 * (Real.pi * Real.pi * (Real.pi * Real.pi)) * ((inter k i j l : ℝ) + inter k j l i + inter k l i j))
    * ((if h : i < 64 then q ⟨i, h⟩ else 0) * (if h : j < 64 then q ⟨j, h⟩ else 0) * (if h : l < 64 then q ⟨l, h⟩ else 0))

/-- The value of the reference. -/
theorem reference_at (m : (ℓ : Loc nD τ sig) → Buf (Elt Ideal) ℓ) (c : Dev nD) (q : ℕ → Fin 64 → ℝ)
    (hq : ∀ (b : Fin 128) (a : Fin 64), m (c.tc.loc main_arg0) (ix2 b a) = ((q b a : ℝ) : EReal)) (b : Fin 128) (k : Fin 64) :
    Value.res_out0 (F := Ideal) m c (ix2 b k) = ((out (q b) k : ℝ) : EReal) := by
  rw [res_eq]
  refine (contract_at _ _ k b).trans ?_
  have e (x : Fin 262144) : coef words (ix4 k ⟨x / 4096, by omega⟩ ⟨x / 64 % 64, by omega⟩ ⟨x % 64, by omega⟩)
      * cube (m (c.tc.loc main_arg0)) (ix4 ⟨x / 4096, by omega⟩ ⟨x / 64 % 64, by omega⟩ ⟨x % 64, by omega⟩ b)
      = ((term (q b) k (x / 4096) (x / 64 % 64) (x % 64) : ℝ) : EReal) := by
    rw [coef_at, cube_at]
    erw [hq, hq, hq]
    simp only [term, dif_pos (show (x : ℕ) / 4096 < 64 by omega), dif_pos (show (x : ℕ) / 64 % 64 < 64 by omega),
      dif_pos (show (x : ℕ) % 64 < 64 by omega), ← EReal.coe_mul]
  simp only [e]
  rw [sum_real, sum_cube (term (q b) k), ← EReal.coe_neg, out_eq (q b) k k.isLt, ← contraction]
  simp only [term, Fin.is_lt, dif_pos, Fin.eta]

end Cert.Modal

end
-- ==== Proof.Finite.lean ====
/- THE PRECONDITION: every entry of the modes' array is below infinity in absolute value, so the array is one of real numbers. -/
module

public import proofs.«01_k».proof.Defs
public import Mathlib.Data.EReal.Operations
public import Idealize.ShloMosaic.Lib.Pointwise

@[expose] public section

noncomputable section

namespace Cert.Modal

open Idealize.ShloMosaic

theorem pre_facts : Cert.Pre_finite.Facts := ⟨by decide⟩

theorem bits_inf : Ideal.ofBits .f32 0x7F800000#32 = (⊤ : EReal) := by
  simp [Ideal.ofBits, Ideal.ieee]

/-- An extended real whose absolute value is below infinity is real. -/
theorem real_of_abs (x : EReal) (h : max x (-x) < ⊤) : ((x.toReal : ℝ) : EReal) = x :=
  EReal.coe_toReal (fun e => by simp [e] at h) (fun e => by simp [e] at h)

/-- So the array's entries are real under the precondition. -/
theorem real_of_pre [Cert.Pre_finite.Facts] (Q : FVec Ideal ⟨2, ![128, 64]⟩ .f32) (A : FVec Ideal ⟨2, ![64, 262144]⟩ .f32)
    (h : Cert.Pre_finite.fn (F := Ideal) Q A = fun _ => 1#1) (i : Shape.Idx ⟨2, ![128, 64]⟩) : (((Q i).toReal : ℝ) : EReal) = Q i := by
  apply real_of_abs
  have e := congrFun h i
  change Ideal.cmp .olt (max (Q i) (-Q i)) (Ideal.ofBits .f32 0x7F800000#32) = 1#1 at e
  rw [bits_inf] at e
  by_contra hn
  simp [Ideal.cmp, hn] at e

end Cert.Modal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelArray
public import proofs.«01_k».proof.Proof.ReferenceValue
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Modal.pre_facts

/-- The reference has no semaphore, so its frame is its run. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A row of the modes' array, as real numbers. -/
def rows (Q : FVec Ideal ⟨2, ![128, 64]⟩ .f32) (b : ℕ) (a : Fin 64) : ℝ := if h : b < 128 then (Q (ix2 ⟨b, h⟩ a)).toReal else 0

theorem rows_at (Q : FVec Ideal ⟨2, ![128, 64]⟩ .f32) (h : ∀ i, (((Q i).toReal : ℝ) : EReal) = Q i) (b : Fin 128) (a : Fin 64) :
    Q (ix2 b a) = ((rows Q b a : ℝ) : EReal) := by
  rw [rows, dif_pos b.isLt]
  exact (h _).symm

/-- At `Ideal` the kernel's result array ends equal to the reference's, from arguments that agree and are finite. -/
theorem algebraic : Cert.algebraic_KernelIdeal_ReferenceIdeal_pre_finite := by
  intro m g m' g' hpre hargs
  have hv (c : Dev Cert.KernelIdeal.nD) : Cert.ReferenceIdeal.Value.res_main_v79 (F := Ideal) m' c
      = (Cert.KernelIdeal.Gen.dats m 0 c).arrAt 4 Cert.KernelIdeal.cfg0.N := by
    have hq := rows_at (m (c.tc.loc Cert.KernelIdeal.main_arg0)) (Cert.Modal.real_of_pre _ _ (hpre c))
    funext i
    idx_vars i
    refine Eq.trans ?_ (Cert.Modal.final_at m c (rows (m (c.tc.loc Cert.KernelIdeal.main_arg0))) ?_ i0 i1).symm
    · exact Cert.Modal.reference_at m' c (rows (m (c.tc.loc Cert.KernelIdeal.main_arg0))) (fun b a => by rw [(hargs c).1]; exact hq b a) i0 i1
    · funext i
      idx_vars i
      exact hq i0 i1
  exact ⟨fun c => (Cert.KernelIdeal.Gen.dats m 0 c).arrAt 4 Cert.KernelIdeal.cfg0.N, Cert.KernelIdeal.Value.run_blocks m g,
    (θ_run Cert.ReferenceIdeal.defs _ _).mono (fun r h c => ⟨(h c).1.trans (hv c), (h c).2⟩) (Cert.ReferenceIdeal.Value.run (F := Ideal) m' g')⟩

theorem claim : Cert.Claim :=
  ⟨Cert.Kernel.Gen.facts, Cert.KernelIdeal.Gen.facts, Cert.ReferenceIdeal.Gen.facts, Cert.Modal.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
